-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S16x16x512 : Shape := ⟨3, ![16, 16, 512]⟩
abbrev S16 : Shape := ⟨1, ![16]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x16x512 : Shape := ⟨3, ![1, 16, 512]⟩
abbrev S16x512 : Shape := ⟨2, ![16, 512]⟩

abbrev nBuf : Space → Nat
  | .hbm => 36
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x64x64, .bf16⟩
  | .hbm, ⟨3, _⟩ => ⟨S2x128x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .bf16⟩
  | .hbm, ⟨33, _⟩ => ⟨S2x4x128x64, .bf16⟩
  | .hbm, ⟨34, _⟩ => ⟨S2x4x128x64, .bf16⟩
  | .hbm, ⟨35, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x4x128x64, .bf16⟩
  | .local _ .vmem, ⟨3, _⟩ => ⟨S2x4x128x64, .bf16⟩
  | .local _ .vmem, ⟨4, _⟩ => ⟨S256x512, .bf16⟩
  | .local _ .vmem, ⟨5, _⟩ => ⟨S2x128x512, .f32⟩
  | .local _ .vmem, ⟨6, _⟩ => ⟨S256x512, .bf16⟩
  | .local _ .vmem, ⟨7, _⟩ => ⟨S16x16x512, .bf16⟩
  | .local _ .vmem, ⟨8, _⟩ => ⟨S256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_183 : BitVec 32 := 0#32
  let c0_i32_184 : BitVec 32 := 0#32
  ![v2.toNat, 0, 0]
def k0_off3 (d0 : Dev nD) (c1_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v248 : BitVec 32 := Scalar.addi v2 c1_i32_177
  let c16_i32_178 : BitVec 32 := 16#32
  let v249 : BitVec 32 := Scalar.remsi v248 c16_i32_178
  let c16_i32_179 : BitVec 32 := 16#32
  let v250 : BitVec 32 := Scalar.muli v249 c16_i32_179
  let c0_i32_185 : BitVec 32 := 0#32
  ![v250.toNat, 0]
def k0_dev16 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_177 : BitVec 32 := 1#32
  let v248 : BitVec 32 := Scalar.addi v2 c1_i32_177
  let c16_i32_178 : BitVec 32 := 16#32
  let v249 : BitVec 32 := Scalar.remsi v248 c16_i32_178
  let c1_i32_181 : BitVec 32 := 1#32
  let v251 : BitVec 32 := Scalar.muli v249 c1_i32_181
  let v252 : BitVec 32 := Scalar.addi c0_i32_182 v251
  v252.toNat
def k0_dev17 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_186 : BitVec 32 := 2#32
  let v260 : BitVec 32 := Scalar.addi v2 c2_i32_186
  let c16_i32_187 : BitVec 32 := 16#32
  let v261 : BitVec 32 := Scalar.remsi v260 c16_i32_187
  let c1_i32_190 : BitVec 32 := 1#32
  let v263 : BitVec 32 := Scalar.muli v261 c1_i32_190
  let v264 : BitVec 32 := Scalar.addi c0_i32_191 v263
  v264.toNat
def k0_dev18 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_195 : BitVec 32 := 3#32
  let v272 : BitVec 32 := Scalar.addi v2 c3_i32_195
  let c16_i32_196 : BitVec 32 := 16#32
  let v273 : BitVec 32 := Scalar.remsi v272 c16_i32_196
  let c1_i32_199 : BitVec 32 := 1#32
  let v275 : BitVec 32 := Scalar.muli v273 c1_i32_199
  let v276 : BitVec 32 := Scalar.addi c0_i32_200 v275
  v276.toNat
def k0_dev19 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_204 : BitVec 32 := 4#32
  let v284 : BitVec 32 := Scalar.addi v2 c4_i32_204
  let c16_i32_205 : BitVec 32 := 16#32
  let v285 : BitVec 32 := Scalar.remsi v284 c16_i32_205
  let c1_i32_208 : BitVec 32 := 1#32
  let v287 : BitVec 32 := Scalar.muli v285 c1_i32_208
  let v288 : BitVec 32 := Scalar.addi c0_i32_209 v287
  v288.toNat
def k0_dev20 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_213 : BitVec 32 := 5#32
  let v296 : BitVec 32 := Scalar.addi v2 c5_i32_213
  let c16_i32_214 : BitVec 32 := 16#32
  let v297 : BitVec 32 := Scalar.remsi v296 c16_i32_214
  let c1_i32_217 : BitVec 32 := 1#32
  let v299 : BitVec 32 := Scalar.muli v297 c1_i32_217
  let v300 : BitVec 32 := Scalar.addi c0_i32_218 v299
  v300.toNat
def k0_dev21 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_222 : BitVec 32 := 6#32
  let v308 : BitVec 32 := Scalar.addi v2 c6_i32_222
  let c16_i32_223 : BitVec 32 := 16#32
  let v309 : BitVec 32 := Scalar.remsi v308 c16_i32_223
  let c1_i32_226 : BitVec 32 := 1#32
  let v311 : BitVec 32 := Scalar.muli v309 c1_i32_226
  let v312 : BitVec 32 := Scalar.addi c0_i32_227 v311
  v312.toNat
def k0_dev22 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_231 : BitVec 32 := 7#32
  let v320 : BitVec 32 := Scalar.addi v2 c7_i32_231
  let c16_i32_232 : BitVec 32 := 16#32
  let v321 : BitVec 32 := Scalar.remsi v320 c16_i32_232
  let c1_i32_235 : BitVec 32 := 1#32
  let v323 : BitVec 32 := Scalar.muli v321 c1_i32_235
  let v324 : BitVec 32 := Scalar.addi c0_i32_236 v323
  v324.toNat
def k0_dev23 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_240 : BitVec 32 := 8#32
  let v332 : BitVec 32 := Scalar.addi v2 c8_i32_240
  let c16_i32_241 : BitVec 32 := 16#32
  let v333 : BitVec 32 := Scalar.remsi v332 c16_i32_241
  let c1_i32_244 : BitVec 32 := 1#32
  let v335 : BitVec 32 := Scalar.muli v333 c1_i32_244
  let v336 : BitVec 32 := Scalar.addi c0_i32_245 v335
  v336.toNat
def k0_dev24 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_249 : BitVec 32 := 9#32
  let v344 : BitVec 32 := Scalar.addi v2 c9_i32_249
  let c16_i32_250 : BitVec 32 := 16#32
  let v345 : BitVec 32 := Scalar.remsi v344 c16_i32_250
  let c1_i32_253 : BitVec 32 := 1#32
  let v347 : BitVec 32 := Scalar.muli v345 c1_i32_253
  let v348 : BitVec 32 := Scalar.addi c0_i32_254 v347
  v348.toNat
def k0_dev25 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_258 : BitVec 32 := 10#32
  let v356 : BitVec 32 := Scalar.addi v2 c10_i32_258
  let c16_i32_259 : BitVec 32 := 16#32
  let v357 : BitVec 32 := Scalar.remsi v356 c16_i32_259
  let c1_i32_262 : BitVec 32 := 1#32
  let v359 : BitVec 32 := Scalar.muli v357 c1_i32_262
  let v360 : BitVec 32 := Scalar.addi c0_i32_263 v359
  v360.toNat
def k0_dev26 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_267 : BitVec 32 := 11#32
  let v368 : BitVec 32 := Scalar.addi v2 c11_i32_267
  let c16_i32_268 : BitVec 32 := 16#32
  let v369 : BitVec 32 := Scalar.remsi v368 c16_i32_268
  let c1_i32_271 : BitVec 32 := 1#32
  let v371 : BitVec 32 := Scalar.muli v369 c1_i32_271
  let v372 : BitVec 32 := Scalar.addi c0_i32_272 v371
  v372.toNat
def k0_dev27 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_276 : BitVec 32 := 12#32
  let v380 : BitVec 32 := Scalar.addi v2 c12_i32_276
  let c16_i32_277 : BitVec 32 := 16#32
  let v381 : BitVec 32 := Scalar.remsi v380 c16_i32_277
  let c1_i32_280 : BitVec 32 := 1#32
  let v383 : BitVec 32 := Scalar.muli v381 c1_i32_280
  let v384 : BitVec 32 := Scalar.addi c0_i32_281 v383
  v384.toNat
def k0_dev28 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_285 : BitVec 32 := 13#32
  let v392 : BitVec 32 := Scalar.addi v2 c13_i32_285
  let c16_i32_286 : BitVec 32 := 16#32
  let v393 : BitVec 32 := Scalar.remsi v392 c16_i32_286
  let c1_i32_289 : BitVec 32 := 1#32
  let v395 : BitVec 32 := Scalar.muli v393 c1_i32_289
  let v396 : BitVec 32 := Scalar.addi c0_i32_290 v395
  v396.toNat
def k0_dev29 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_294 : BitVec 32 := 14#32
  let v404 : BitVec 32 := Scalar.addi v2 c14_i32_294
  let c16_i32_295 : BitVec 32 := 16#32
  let v405 : BitVec 32 := Scalar.remsi v404 c16_i32_295
  let c1_i32_298 : BitVec 32 := 1#32
  let v407 : BitVec 32 := Scalar.muli v405 c1_i32_298
  let v408 : BitVec 32 := Scalar.addi c0_i32_299 v407
  v408.toNat
def k0_dev30 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_303 : BitVec 32 := 15#32
  let v416 : BitVec 32 := Scalar.addi v2 c15_i32_303
  let c16_i32_304 : BitVec 32 := 16#32
  let v417 : BitVec 32 := Scalar.remsi v416 c16_i32_304
  let c1_i32_307 : BitVec 32 := 1#32
  let v419 : BitVec 32 := Scalar.muli v417 c1_i32_307
  let v420 : BitVec 32 := Scalar.addi c0_i32_308 v419
  v420.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_312 : BitVec 32 := 16#32
  let v428 : BitVec 32 := Scalar.muli v2 c16_i32_312
  let v429 : Index := Scalar.indexCast v428
  let c0_313 : Index := 0#32
  ![v429.toNat, 0]
def k0_off5 (d0 : Dev nD) (c1_i32_314 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v432 : BitVec 32 := Scalar.addi v2 c1_i32_314
  let c16_i32_315 : BitVec 32 := 16#32
  let v433 : BitVec 32 := Scalar.remsi v432 c16_i32_315
  ![v433.toNat]
def k0_off6 (d0 : Dev nD) (c1_i32_314 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v432 : BitVec 32 := Scalar.addi v2 c1_i32_314
  let c16_i32_315 : BitVec 32 := 16#32
  let v433 : BitVec 32 := Scalar.remsi v432 c16_i32_315
  let c0_i32_319 : BitVec 32 := 0#32
  let c0_i32_320 : BitVec 32 := 0#32
  ![v433.toNat, 0, 0]
def k0_off7 (d0 : Dev nD) (c1_i32_314 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v432 : BitVec 32 := Scalar.addi v2 c1_i32_314
  let c16_i32_315 : BitVec 32 := 16#32
  let v433 : BitVec 32 := Scalar.remsi v432 c16_i32_315
  let v441 : Index := Scalar.indexCast v433
  let c0_323 : Index := 0#32
  let c0_324 : Index := 0#32
  ![v441.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_484 : BitVec 32 := 16#32
  let v651 : BitVec 32 := Scalar.muli v2 c16_i32_484
  let c0_i32_488 : BitVec 32 := 0#32
  ![v651.toNat, 0]
def k0_dev31 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_481 : BitVec 32 := 1#32
  let v648 : BitVec 32 := Scalar.addi v2 c1_i32_481
  let c16_i32_482 : BitVec 32 := 16#32
  let v649 : BitVec 32 := Scalar.remsi v648 c16_i32_482
  let c1_i32_486 : BitVec 32 := 1#32
  let v652 : BitVec 32 := Scalar.muli v649 c1_i32_486
  let v653 : BitVec 32 := Scalar.addi c0_i32_487 v652
  v653.toNat
def k0_dev32 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_490 : BitVec 32 := 2#32
  let v660 : BitVec 32 := Scalar.addi v2 c2_i32_490
  let c16_i32_491 : BitVec 32 := 16#32
  let v661 : BitVec 32 := Scalar.remsi v660 c16_i32_491
  let c1_i32_495 : BitVec 32 := 1#32
  let v664 : BitVec 32 := Scalar.muli v661 c1_i32_495
  let v665 : BitVec 32 := Scalar.addi c0_i32_496 v664
  v665.toNat
def k0_dev33 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_499 : BitVec 32 := 3#32
  let v672 : BitVec 32 := Scalar.addi v2 c3_i32_499
  let c16_i32_500 : BitVec 32 := 16#32
  let v673 : BitVec 32 := Scalar.remsi v672 c16_i32_500
  let c1_i32_504 : BitVec 32 := 1#32
  let v676 : BitVec 32 := Scalar.muli v673 c1_i32_504
  let v677 : BitVec 32 := Scalar.addi c0_i32_505 v676
  v677.toNat
def k0_dev34 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_508 : BitVec 32 := 4#32
  let v684 : BitVec 32 := Scalar.addi v2 c4_i32_508
  let c16_i32_509 : BitVec 32 := 16#32
  let v685 : BitVec 32 := Scalar.remsi v684 c16_i32_509
  let c1_i32_513 : BitVec 32 := 1#32
  let v688 : BitVec 32 := Scalar.muli v685 c1_i32_513
  let v689 : BitVec 32 := Scalar.addi c0_i32_514 v688
  v689.toNat
def k0_dev35 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_517 : BitVec 32 := 5#32
  let v696 : BitVec 32 := Scalar.addi v2 c5_i32_517
  let c16_i32_518 : BitVec 32 := 16#32
  let v697 : BitVec 32 := Scalar.remsi v696 c16_i32_518
  let c1_i32_522 : BitVec 32 := 1#32
  let v700 : BitVec 32 := Scalar.muli v697 c1_i32_522
  let v701 : BitVec 32 := Scalar.addi c0_i32_523 v700
  v701.toNat
def k0_dev36 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_526 : BitVec 32 := 6#32
  let v708 : BitVec 32 := Scalar.addi v2 c6_i32_526
  let c16_i32_527 : BitVec 32 := 16#32
  let v709 : BitVec 32 := Scalar.remsi v708 c16_i32_527
  let c1_i32_531 : BitVec 32 := 1#32
  let v712 : BitVec 32 := Scalar.muli v709 c1_i32_531
  let v713 : BitVec 32 := Scalar.addi c0_i32_532 v712
  v713.toNat
def k0_dev37 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_535 : BitVec 32 := 7#32
  let v720 : BitVec 32 := Scalar.addi v2 c7_i32_535
  let c16_i32_536 : BitVec 32 := 16#32
  let v721 : BitVec 32 := Scalar.remsi v720 c16_i32_536
  let c1_i32_540 : BitVec 32 := 1#32
  let v724 : BitVec 32 := Scalar.muli v721 c1_i32_540
  let v725 : BitVec 32 := Scalar.addi c0_i32_541 v724
  v725.toNat
def k0_dev38 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_544 : BitVec 32 := 8#32
  let v732 : BitVec 32 := Scalar.addi v2 c8_i32_544
  let c16_i32_545 : BitVec 32 := 16#32
  let v733 : BitVec 32 := Scalar.remsi v732 c16_i32_545
  let c1_i32_549 : BitVec 32 := 1#32
  let v736 : BitVec 32 := Scalar.muli v733 c1_i32_549
  let v737 : BitVec 32 := Scalar.addi c0_i32_550 v736
  v737.toNat
def k0_dev39 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_553 : BitVec 32 := 9#32
  let v744 : BitVec 32 := Scalar.addi v2 c9_i32_553
  let c16_i32_554 : BitVec 32 := 16#32
  let v745 : BitVec 32 := Scalar.remsi v744 c16_i32_554
  let c1_i32_558 : BitVec 32 := 1#32
  let v748 : BitVec 32 := Scalar.muli v745 c1_i32_558
  let v749 : BitVec 32 := Scalar.addi c0_i32_559 v748
  v749.toNat
def k0_dev40 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v756 : BitVec 32 := Scalar.addi v2 c10_i32_562
  let c16_i32_563 : BitVec 32 := 16#32
  let v757 : BitVec 32 := Scalar.remsi v756 c16_i32_563
  let c1_i32_567 : BitVec 32 := 1#32
  let v760 : BitVec 32 := Scalar.muli v757 c1_i32_567
  let v761 : BitVec 32 := Scalar.addi c0_i32_568 v760
  v761.toNat
def k0_dev41 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_571 : BitVec 32 := 11#32
  let v768 : BitVec 32 := Scalar.addi v2 c11_i32_571
  let c16_i32_572 : BitVec 32 := 16#32
  let v769 : BitVec 32 := Scalar.remsi v768 c16_i32_572
  let c1_i32_576 : BitVec 32 := 1#32
  let v772 : BitVec 32 := Scalar.muli v769 c1_i32_576
  let v773 : BitVec 32 := Scalar.addi c0_i32_577 v772
  v773.toNat
def k0_dev42 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_580 : BitVec 32 := 12#32
  let v780 : BitVec 32 := Scalar.addi v2 c12_i32_580
  let c16_i32_581 : BitVec 32 := 16#32
  let v781 : BitVec 32 := Scalar.remsi v780 c16_i32_581
  let c1_i32_585 : BitVec 32 := 1#32
  let v784 : BitVec 32 := Scalar.muli v781 c1_i32_585
  let v785 : BitVec 32 := Scalar.addi c0_i32_586 v784
  v785.toNat
def k0_dev43 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_589 : BitVec 32 := 13#32
  let v792 : BitVec 32 := Scalar.addi v2 c13_i32_589
  let c16_i32_590 : BitVec 32 := 16#32
  let v793 : BitVec 32 := Scalar.remsi v792 c16_i32_590
  let c1_i32_594 : BitVec 32 := 1#32
  let v796 : BitVec 32 := Scalar.muli v793 c1_i32_594
  let v797 : BitVec 32 := Scalar.addi c0_i32_595 v796
  v797.toNat
def k0_dev44 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_598 : BitVec 32 := 14#32
  let v804 : BitVec 32 := Scalar.addi v2 c14_i32_598
  let c16_i32_599 : BitVec 32 := 16#32
  let v805 : BitVec 32 := Scalar.remsi v804 c16_i32_599
  let c1_i32_603 : BitVec 32 := 1#32
  let v808 : BitVec 32 := Scalar.muli v805 c1_i32_603
  let v809 : BitVec 32 := Scalar.addi c0_i32_604 v808
  v809.toNat
def k0_dev45 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_607 : BitVec 32 := 15#32
  let v816 : BitVec 32 := Scalar.addi v2 c15_i32_607
  let c16_i32_608 : BitVec 32 := 16#32
  let v817 : BitVec 32 := Scalar.remsi v816 c16_i32_608
  let c1_i32_612 : BitVec 32 := 1#32
  let v820 : BitVec 32 := Scalar.muli v817 c1_i32_612
  let v821 : BitVec 32 := Scalar.addi c0_i32_613 v820
  v821.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 66
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x128x512, .f32⟩
  | .hbm, ⟨6, _⟩ => ⟨S512x4096, .f32⟩
  | .hbm, ⟨7, _⟩ => ⟨S2x128x64x64, .f32⟩
  | .hbm, ⟨8, _⟩ => ⟨S2x128x64x64, .f32⟩
  | .hbm, ⟨9, _⟩ => ⟨S4096x512, .f32⟩
  | .hbm, ⟨10, _⟩ => ⟨S2x128x4096, .f32⟩
  | .hbm, ⟨11, _⟩ => ⟨S2x128x4096, .bf16⟩
  | .hbm, ⟨12, _⟩ => ⟨S2x128x4096, .f32⟩
  | .hbm, ⟨13, _⟩ => ⟨S2x128x64x64, .f32⟩
  | .hbm, ⟨14, _⟩ => ⟨S128, .i32⟩
  | .hbm, ⟨15, _⟩ => ⟨S128x1, .i32⟩
  | .hbm, ⟨16, _⟩ => ⟨S128, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S2x64x128x128, .f32⟩
  | .hbm, ⟨26, _⟩ => ⟨S2x64x128x128, .bf16⟩
  | .hbm, ⟨27, _⟩ => ⟨S2x64x128x128, .f32⟩
  | .hbm, ⟨28, _⟩ => ⟨S_, .f32⟩
  | .hbm, ⟨29, _⟩ => ⟨S2x64x128x128, .f32⟩
  | .hbm, ⟨30, _⟩ => ⟨S2x64x128x128, .f32⟩
  | .hbm, ⟨31, _⟩ => ⟨S1x1x128x128, .i1⟩
  | .hbm, ⟨32, _⟩ => ⟨S_, .f32⟩
  | .hbm, ⟨33, _⟩ => ⟨S_, .f32⟩
  | .hbm, ⟨34, _⟩ => ⟨S2x64x128x128, .i1⟩
  | .hbm, ⟨35, _⟩ => ⟨S2x64x128x128, .f32⟩
  | .hbm, ⟨36, _⟩ => ⟨S2x64x128x128, .f32⟩
  | .hbm, ⟨37, _⟩ => ⟨S_, .f32⟩
  | .hbm, ⟨38, _⟩ => ⟨S2x64x128, .f32⟩
  | .hbm, ⟨39, _⟩ => ⟨S2x64x128x1, .f32⟩
  | .hbm, ⟨40, _⟩ => ⟨S2x64x128x128, .f32⟩
  | .hbm, ⟨41, _⟩ => ⟨S2x64x128x128, .f32⟩
  | .hbm, ⟨42, _⟩ => ⟨S2x64x128x128, .f32⟩
  | .hbm, ⟨43, _⟩ => ⟨S_, .i1⟩
  | .hbm, ⟨44, _⟩ => ⟨S128, .i1⟩
  | .hbm, ⟨45, _⟩ => ⟨S1x1x128x1, .i1⟩
  | .hbm, ⟨46, _⟩ => ⟨S_, .f32⟩
  | .hbm, ⟨47, _⟩ => ⟨S2x64x128, .f32⟩
  | .hbm, ⟨48, _⟩ => ⟨S2x64x128x1, .f32⟩
  | .hbm, ⟨49, _⟩ => ⟨S_, .f32⟩
  | .hbm, ⟨50, _⟩ => ⟨S_, .f32⟩
  | .hbm, ⟨51, _⟩ => ⟨S2x64x128x1, .i1⟩
  | .hbm, ⟨52, _⟩ => ⟨S2x64x128x1, .f32⟩
  | .hbm, ⟨53, _⟩ => ⟨S2x64x128x1, .f32⟩
  | .hbm, ⟨54, _⟩ => ⟨S2x64x128x128, .f32⟩
  | .hbm, ⟨55, _⟩ => ⟨S2x64x128x128, .f32⟩
  | .hbm, ⟨56, _⟩ => ⟨S1x1x128x1, .i1⟩
  | .hbm, ⟨57, _⟩ => ⟨S_, .f32⟩
  | .hbm, ⟨58, _⟩ => ⟨S_, .f32⟩
  | .hbm, ⟨59, _⟩ => ⟨S2x64x128x128, .i1⟩
  | .hbm, ⟨60, _⟩ => ⟨S2x64x128x128, .f32⟩
  | .hbm, ⟨61, _⟩ => ⟨S2x64x128x128, .f32⟩
  | .hbm, ⟨62, _⟩ => ⟨S2x64x64x128, .f32⟩
  | .hbm, ⟨63, _⟩ => ⟨S2x128x64x64, .f32⟩
  | .hbm, ⟨64, _⟩ => ⟨S2x128x4096, .f32⟩
  | .hbm, ⟨65, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Proto.lean ====
/-
  The kernel's conversation between the sixteen devices, stated before any step of it is proved: the cells, the pieces of
  the scratch buffers that travel, what each landing hands over, what each device owes at the start, and the levels.
-/
module

public import proofs.«01_k».proof.Proof.Gen.KernelIdeal.Launch
public import Idealize.ShloMosaic.Lib.Rounds
public import Idealize.ShloMosaic.Lib.Tactic
public import Idealize.ShloMosaic.Lib.Pipeline.RegionTalk
public import Idealize.ShloMosaic.Lib.Transfers

@[expose] public section

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

/-! ## The algebra -/

/-- One copy of the rounds algebra for the staging pipeline (one duty per round) and one for the kernel's own
    conversation, whose duties are named by device. -/
abbrev UU : Type := UR sig nD τ × Rounds.URounds (GSem nD τ sig) (Dev nD)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Dev nD)) (MT nD τ sig Unit (Elt F) ℕ UU ℕ) := embR

/-! ## Devices -/

/-- The device `k` places after `c` on the ring of sixteen. -/
def pk (c : Dev nD) (k : ℕ) : Dev nD := ⟨(c.val + k) % 16, Nat.mod_lt _ (by decide)⟩

theorem pk_val (c : Dev nD) (k : ℕ) : (pk c k).val = (c.val + k) % 16 := rfl

/-- No step of one to fifteen places comes back to where it started. -/
theorem pk_ne (c : Dev nD) {k : ℕ} (h1 : 1 ≤ k) (h2 : k < 16) : pk c k ≠ c := fun h => by
  have h' := congrArg Fin.val h
  have hc : c.val < 16 := c.isLt
  rw [pk_val] at h'; omega

/-- Steps of different lengths below sixteen end at different devices. -/
theorem pk_inj (c : Dev nD) {k k' : ℕ} (h : k < 16) (h' : k' < 16) (e : pk c k = pk c k') : k = k' := by
  have e' := congrArg Fin.val e
  have hc : c.val < 16 := c.isLt
  rw [pk_val, pk_val] at e'; omega

/-- The steps from one to fifteen places reach every other device, each once. -/
theorem image_pk (c : Dev nD) : (Finset.Ico 1 16).image (pk c) = Finset.univ.erase c := by
  ext d
  simp only [Finset.mem_image, Finset.mem_Ico, Finset.mem_erase, Finset.mem_univ, and_true]
  constructor
  · rintro ⟨k, ⟨h1, h2⟩, rfl⟩; exact pk_ne c h1 h2
  · intro h
    have hc : c.val < 16 := c.isLt
    have hd : d.val < 16 := d.isLt
    have hne : d.val ≠ c.val := fun e => h (Fin.ext e)
    refine ⟨(d.val + 16 - c.val) % 16, ⟨?_, ?_⟩, Fin.ext ?_⟩
    · omega
    · omega
    · rw [pk_val]; omega

/-! ## Cells -/

/-- The one regular semaphore: the barrier. -/
abbrev barS : Sem sig := ⟨0, by decide⟩
/-- The kernel's own transfer semaphores, by array (0: source side of the first exchange, 1: its landing side; 2 and 3 the
    same for the second exchange) and number. -/
def dmaS (a : Fin 4) (i : Fin 16) : DmaSem sig := ⟨6 + 16 * a.val + i.val, by
  have := a.isLt; have := i.isLt; show _ < 70; omega⟩

theorem dmaS_val (a : Fin 4) (i : Fin 16) : (dmaS a i).val = 6 + 16 * a.val + i.val := rfl

abbrev barCell (c : Dev nD) : GSem nD τ sig := ((c : Thread nD τ), .reg barS)
abbrev dCell (c : Dev nD) (a : Fin 4) (i : Fin 16) : GSem nD τ sig := ((c : Thread nD τ), .dma (dmaS a i))

/-- The number of a step as a semaphore number. -/
def kf (k : ℕ) : Fin 16 := ⟨k % 16, Nat.mod_lt _ (by decide)⟩

theorem kf_ne {k : ℕ} (h1 : 1 ≤ k) (h2 : k < 16) : (kf k).val ≠ 0 := by show k % 16 ≠ 0; omega

/-! ## Pieces of the scratch buffers -/

abbrev sbM : Memref sig .tc .vmem S256x512 .bf16 := Memref.whole cc0_scratch0
abbrev r1M : Memref sig .tc .vmem S16x16x512 .bf16 := Memref.whole cc0_scratch1
abbrev gbM : Memref sig .tc .vmem S256x512 .bf16 := Memref.whole cc0_scratch2

theorem rows_inb (p : Fin 16) : ∀ a, (![16 * p.val, 0] : Fin 2 → Nat) a + S16x512.size a ≤ S256x512.size a := by
  have hp : p.val < 16 := p.isLt
  exact Rect.inb₂ (by show 16 * p.val + 16 ≤ 256; omega) (by show 0 + 512 ≤ 512; omega)

theorem slot_inb (p : Fin 16) : ∀ a, (![p.val, 0, 0] : Fin 3 → Nat) a + S1x16x512.size a ≤ S16x16x512.size a := by
  have hp : p.val < 16 := p.isLt
  intro a
  match a with
  | 0 => show p.val + 1 ≤ 16; omega
  | 1 => show 0 + 16 ≤ 16; omega
  | 2 => show 0 + 512 ≤ 512; omega

/-- Sixteen rows of a 256-row buffer, those of device `p`. -/
def rowsR (p : Fin 16) : Rect S256x512 := Rect.unit (s := S256x512) ![16 * p.val, 0] S16x512.size (rows_inb p)
/-- One slot of the landing buffer of the first exchange, the one device `p` writes. -/
def slotR (p : Fin 16) : Rect S16x16x512 := Rect.unit (s := S16x16x512) ![p.val, 0, 0] S1x16x512.size (slot_inb p)

abbrev rowsM (M : Memref sig .tc .vmem S256x512 .bf16) (p : Fin 16) : Memref sig .tc .vmem S16x512 .bf16 :=
  M.slice (Rect.unit (s := S256x512) ![16 * p.val, 0] S16x512.size (rows_inb p)) (fun _ => rfl)
abbrev slotM (p : Fin 16) : Memref sig .tc .vmem S16x512 .bf16 :=
  (r1M.slice (Rect.unit (s := S16x16x512) ![p.val, 0, 0] S1x16x512.size (slot_inb p)) (fun _ => rfl)).squeeze S16x512 squeezes_S1x16x512_S16x512

/-- Device `c`'s rows `p` of its send buffer, holding `f`. -/
abbrev sbAt (c : Dev nD) (p : Fin 16) (f : Vec F S256x512 .bf16) : sProp 𝕄 :=
  (rowsM sbM p).view.loc (c : Thread nD τ) ↦[(rowsM sbM p).view.set]{fullShare} f
/-- Device `c`'s slot `p` of its landing buffer, holding `f`. -/
abbrev slotAt (c : Dev nD) (p : Fin 16) (f : Vec F S16x16x512 .bf16) : sProp 𝕄 :=
  (slotM p).view.loc (c : Thread nD τ) ↦[(slotM p).view.set]{fullShare} f
/-- Device `c`'s rows `p` of its gathered buffer at share `q`, holding `f`. -/
abbrev gbAt (c : Dev nD) (p : Fin 16) (q : PosShare TreeShare) (f : Vec F S256x512 .bf16) : sProp 𝕄 :=
  (rowsM gbM p).view.loc (c : Thread nD τ) ↦[(rowsM gbM p).view.set]{q} f

/-- The share of its own gathered rows that a device lends to the copy at step `k`. -/
def qk (k : ℕ) : PosShare TreeShare := Transfers.dealOf fullShare (Finset.Ico 1 16) k

/-- What one transfer of sixteen rows adds to a cell. -/
abbrev N : ℕ := (rowsM gbM 0).view.dmaCredit
theorem N_pos : 0 < N := View.dmaCredit_pos _ (by decide)

/-! ## What travels -/

variable (P : Dev nD → Vec F S256x512 .bf16) (G : Vec F S256x512 .bf16)

/-- What device `c`'s landing buffer of the first exchange holds at the end: slot `s` is device `s`'s partial rows for `c`. -/
def landed (c : Dev nD) : Vec F S16x16x512 .bf16 := fun i =>
  P ⟨(i 0).val, (i 0).isLt⟩ (Shape.pair (d := ![256, 512]) ⟨16 * c.val + (i 1).val, by
    have h1 : (i 1).val < 16 := (i 1).isLt
    have h2 : c.val < 16 := c.isLt
    show _ < 256; omega⟩ ⟨(i 2).val, (i 2).isLt⟩)

/-- Paid by device `d` to device `c`'s barrier: the slot of `d`'s landing buffer that `c` will write, the rows of `d`'s
    gathered buffer that `c` will write, and that `d` has opened the two cells those copies complete on. -/
def barPay (c d : Dev nD) : sProp 𝕄 :=
  iprop((∃ f, slotAt d c f) ∗ (∃ f, gbAt d c fullShare f) ∗ reached ER (dCell d 1 c) 0 ∗ reached ER (dCell d 3 c) 0)

/-- What a landing on transfer cell `i` of array `a` of device `c` hands over:
    the rows of the send buffer back; the slot written; a share of the gathered rows back; the gathered rows written. -/
def dmaPay (c : Dev nD) (a i : ℕ) : sProp 𝕄 :=
  if a = 0 then sbAt c (pk c i) (P c)
  else if a = 1 then slotAt c (kf i) (landed P c)
  else if a = 2 then gbAt c c (qk i) G
  else gbAt c (kf i) fullShare G

/-- Whether transfer cell `i` of array `a` of device `c` is used: the cell of step zero, and the landing cell of the
    device itself, are not. -/
def used (c : Dev nD) (a i : ℕ) : Prop := if a = 0 ∨ a = 2 then i ≠ 0 else i ≠ c.val

instance (c : Dev nD) (a i : ℕ) : Decidable (used c a i) := by unfold used; infer_instance

/-- The duties of a cell: on a barrier one of each other device; on a used transfer cell one, called 0. -/
def dutiesOf (c : Dev nD) : SemLoc sig → Finset (Dev nD)
  | .reg _ => Finset.univ.erase c
  | .dma n => if 6 ≤ n.val ∧ used c ((n.val - 6) / 16) ((n.val - 6) % 16) then {0} else ∅

/-- What a duty hands over. -/
def payOf (c d : Dev nD) : SemLoc sig → sProp 𝕄
  | .reg _ => barPay c d
  | .dma n => dmaPay P G c ((n.val - 6) / 16) ((n.val - 6) % 16)

/-- The conversation: every cell has one round. -/
def rd : Rounds.Schedule (GSem nD τ sig) (Dev nD) 𝕄 where
  duties g r := if r = 0 ∧ g.1.2 = .tc then dutiesOf g.1.1 g.2 else ∅
  unitless _ := False
  amount g _ _ := match g.2 with | .reg _ => 1 | .dma _ => N
  payload g _ d := payOf P G g.1.1 d g.2
  amount_pos g _ _ _ := by
    obtain ⟨_, s⟩ := g
    cases s
    · exact Nat.one_pos
    · exact N_pos

instance dmaPay_storable (c : Dev nD) (a i : ℕ) : BI.Storable (upEmb : UEmb _ 𝕄) (dmaPay P G c a i) := by
  unfold dmaPay; (repeat' split) <;> infer_instance

instance rd_storable (g : GSem nD τ sig) (r : ℕ) (d : Dev nD) : BI.Storable (upEmb : UEmb _ 𝕄) ((rd P G).payload g r d) := by
  obtain ⟨t, s⟩ := g
  cases s
  · show BI.Storable _ (barPay (F := F) t.1 d); unfold barPay; infer_instance
  · show BI.Storable _ (dmaPay P G t.1 _ _); infer_instance

theorem duties_later (g : GSem nD τ sig) : ∀ r, 1 ≤ r → (rd P G).duties g r = ∅ :=
  fun r hr => if_neg (fun h => by omega)

theorem duties_bar (c : Dev nD) : (rd P G).duties (barCell c) 0 = Finset.univ.erase c := by
  show (if (0 : ℕ) = 0 ∧ (barCell c).1.2 = .tc then Finset.univ.erase c else ∅) = _
  exact if_pos ⟨rfl, rfl⟩

theorem dma_div (a : Fin 4) (i : Fin 16) : ((dmaS a i).val - 6) / 16 = a.val := by
  have := i.isLt; rw [dmaS_val]; omega
theorem dma_mod (a : Fin 4) (i : Fin 16) : ((dmaS a i).val - 6) % 16 = i.val := by
  have := i.isLt; rw [dmaS_val]; omega

theorem duties_dma (c : Dev nD) (a : Fin 4) (i : Fin 16) :
    (rd P G).duties (dCell c a i) 0 = if used c a.val i.val then {0} else ∅ := by
  show (if (0 : ℕ) = 0 ∧ (dCell c a i).1.2 = .tc then dutiesOf c (.dma (dmaS a i)) else ∅) = _
  rw [if_pos ⟨rfl, rfl⟩]
  show (if 6 ≤ (dmaS a i).val ∧ used c (((dmaS a i).val - 6) / 16) (((dmaS a i).val - 6) % 16) then ({0} : Finset (Dev nD)) else ∅) = _
  rw [dma_div, dma_mod]
  by_cases h : used c a.val i.val
  · rw [if_pos h, if_pos ⟨by rw [dmaS_val]; omega, h⟩]
  · rw [if_neg h, if_neg (fun h' => h h'.2)]

theorem amount_bar (c d : Dev nD) : (rd P G).amount (barCell c) 0 d = 1 := rfl
theorem amount_dma (c : Dev nD) (a : Fin 4) (i : Fin 16) (d : Dev nD) : (rd P G).amount (dCell c a i) 0 d = N := rfl

theorem payload_bar (c d : Dev nD) : (rd P G).payload (barCell c) 0 d = barPay c d := rfl
theorem payload_dma (c : Dev nD) (a : Fin 4) (i : Fin 16) (d : Dev nD) :
    (rd P G).payload (dCell c a i) 0 d = dmaPay P G c a.val i.val := by
  show dmaPay P G c (((dmaS a i).val - 6) / 16) (((dmaS a i).val - 6) % 16) = _
  rw [dma_div, dma_mod]

theorem expect_bar (c : Dev nD) : (rd P G).expect (barCell c) 0 = 15 := by
  unfold Schedule.expect Schedule.amountOf
  rw [duties_bar, Finset.sum_congr rfl (fun d _ => amount_bar P G c d), Finset.sum_const, Finset.card_erase_of_mem (Finset.mem_univ c)]
  rfl
theorem expect_dma (c : Dev nD) (a : Fin 4) (i : Fin 16) (h : used c a.val i.val) : (rd P G).expect (dCell c a i) 0 = N := by
  unfold Schedule.expect Schedule.amountOf
  rw [duties_dma, if_pos h, Finset.sum_singleton, amount_dma]

theorem rest_dma (c : Dev nD) (a : Fin 4) (i : Fin 16) (h : used c a.val i.val) :
    bigSep ((rd P G).duties (dCell c a i) 0 \ ∅) (fun u => (rd P G).payload (dCell c a i) 0 u) = dmaPay P G c a.val i.val := by
  rw [Finset.sdiff_empty, duties_dma, if_pos h, bigSep_singleton, payload_dma]

theorem used0 (c : Dev nD) {k : ℕ} (h1 : 1 ≤ k) (h2 : k < 16) : used c 0 (kf k).val := by
  unfold used; rw [if_pos (.inl rfl)]; exact kf_ne h1 h2
theorem used2 (c : Dev nD) {k : ℕ} (h1 : 1 ≤ k) (h2 : k < 16) : used c 2 (kf k).val := by
  unfold used; rw [if_pos (.inr rfl)]; exact kf_ne h1 h2
theorem used1 (c d : Dev nD) (h : d ≠ c) : used c 1 d.val := by
  unfold used; rw [if_neg (by decide)]; exact fun e => h (Fin.ext e)
theorem used3 (c d : Dev nD) (h : d ≠ c) : used c 3 d.val := by
  unfold used; rw [if_neg (by decide)]; exact fun e => h (Fin.ext e)

theorem dmaPay0 (c : Dev nD) {k : ℕ} (h2 : k < 16) : dmaPay P G c 0 (kf k).val = sbAt c (pk c k) (P c) := by
  unfold dmaPay; rw [if_pos rfl, show (kf k).val = k from Nat.mod_eq_of_lt h2]
theorem dmaPay1 (c d : Dev nD) : dmaPay P G c 1 d.val = slotAt c d (landed P c) := by
  unfold dmaPay; rw [if_neg (by decide), if_pos rfl, show kf d.val = d from Fin.ext (Nat.mod_eq_of_lt d.isLt)]
theorem dmaPay2 (c : Dev nD) {k : ℕ} (h2 : k < 16) : dmaPay P G c 2 (kf k).val = gbAt c c (qk k) G := by
  unfold dmaPay; rw [if_neg (by decide), if_neg (by decide), if_pos rfl, show (kf k).val = k from Nat.mod_eq_of_lt h2]
theorem dmaPay3 (c d : Dev nD) : dmaPay P G c 3 d.val = gbAt c d fullShare G := by
  unfold dmaPay
  rw [if_neg (by decide), if_neg (by decide), if_neg (by decide), show kf d.val = d from Fin.ext (Nat.mod_eq_of_lt d.isLt)]

/-! ## Dues and levels -/

/-- The barrier units device `c` still owes at step `n`; -/
def owB (c : Dev nD) (n : ℕ) : CellTallies nD τ sig Unit := ∑ k ∈ Finset.Ico n 16, tallyAt (barCell (pk c k)) () 1
/-- the landings of the first exchange it still owes; -/
def ow1 (c : Dev nD) (n : ℕ) : CellTallies nD τ sig Unit := ∑ k ∈ Finset.Ico n 16, tallyAt (dCell (pk c k) 1 c) () N
/-- and of the second. -/
def ow3 (c : Dev nD) (n : ℕ) : CellTallies nD τ sig Unit := ∑ k ∈ Finset.Ico n 16, tallyAt (dCell (pk c k) 3 c) () N

/-- Everything device `c` owes when the kernel starts. -/
def O₀ (c : Dev nD) : CellTallies nD τ sig Unit := ow3 c 1 + ow1 c 1 + owB c 1

def L (g : GSem nD τ sig) : Finset Unit := if g.1.2 = .tc then {()} else ∅
/-- Barriers at 1, landings of the first exchange at 2, of the second at 3, everything else at 0. -/
def lvOf : SemLoc sig → ℕ
  | .reg _ => 1
  | .dma n => if (n.val - 6) / 16 = 1 then 2 else if (n.val - 6) / 16 = 3 then 3 else 0
def lv (g : GSem nD τ sig) (_ : Unit) : ℕ := lvOf g.2

theorem L_tc (c : Dev nD) (sm : SemLoc sig) : L ((c : Thread nD τ), sm) = {()} := if_pos rfl
theorem L_of_ne (g : GSem nD τ sig) (h : g.1.2 ≠ .tc) : L g = ∅ := if_neg h

theorem lvOf_dma (a : Fin 4) (i : Fin 16) : lvOf (.dma (dmaS a i)) = if a.val = 1 then 2 else if a.val = 3 then 3 else 0 := by
  show (if ((dmaS a i).val - 6) / 16 = 1 then 2 else if ((dmaS a i).val - 6) / 16 = 3 then 3 else 0) = _
  rw [dma_div]

/-- The steps from `k` on are `k` and those after it. -/
theorem ico_bot {k : ℕ} (h : k < 16) : Finset.Ico k 16 = insert k (Finset.Ico (k + 1) 16) := by
  ext j; simp only [Finset.mem_Ico, Finset.mem_insert]; omega
theorem ico_bot_notMem (k : ℕ) : k ∉ Finset.Ico (k + 1) 16 := by simp
/-- The steps up to `k` are those before it and `k`. -/
theorem ico_top {k : ℕ} (h : 1 ≤ k) : Finset.Ico 1 (k + 1) = insert k (Finset.Ico 1 k) := by
  ext j; simp only [Finset.mem_Ico, Finset.mem_insert]; omega
theorem ico_top_notMem (k : ℕ) : k ∉ Finset.Ico 1 k := by simp

theorem ow_step {β : Type} [AddCommMonoid β] (f : ℕ → β) {k : ℕ} (h : k < 16) :
    ∑ j ∈ Finset.Ico k 16, f j = (∑ j ∈ Finset.Ico (k + 1) 16, f j) + f k := by
  rw [ico_bot h, Finset.sum_insert (ico_bot_notMem k), add_comm]

end Cert.Talk
-- ==== Proof.Geo.lean ====
/-
  Where the travelling pieces lie: sixteen blocks of sixteen rows make a 256-row buffer, sixteen slots make the landing
  buffer, and what a copy from the one into the other writes.
-/
module

public import proofs.«01_k».proof.Proof.Proto
public import Idealize.ShloMosaic.Lib.Ring
public import Idealize.ShloMosaic.Lib.Exec.Geometry

@[expose] public section

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ UU ℕ

/-- Row `r`, column `q` of a 256-row buffer. -/
abbrev at2 (r q : ℕ) (hr : r < 256) (hq : q < 512) : S256x512.Idx := Shape.pair (d := ![256, 512]) ⟨r, hr⟩ ⟨q, hq⟩

theorem mem_rowsR (p : Fin 16) (i : S256x512.Idx) : i ∈ (rowsR p).set ↔ 16 * p.val ≤ (i 0).val ∧ (i 0).val < 16 * p.val + 16 := by
  unfold rowsR
  rw [Rect.mem_set_unit]
  constructor
  · intro h; exact h 0
  · intro h a
    match a with
    | 0 => exact h
    | 1 => exact ⟨Nat.zero_le _, by have := (i 1).isLt; show (i 1).val < 0 + 512; have h5 : (i 1).val < 512 := this; omega⟩

theorem mem_slotR (p : Fin 16) (i : S16x16x512.Idx) : i ∈ (slotR p).set ↔ (i 0).val = p.val := by
  unfold slotR
  rw [Rect.mem_set_unit]
  constructor
  · intro h
    have h0 := h 0
    have h1 : p.val ≤ (i 0).val := h0.1
    have h2 : (i 0).val < p.val + 1 := h0.2
    omega
  · intro h a
    match a with
    | 0 => exact ⟨by show p.val ≤ (i 0).val; omega, by show (i 0).val < p.val + 1; omega⟩
    | 1 => exact ⟨Nat.zero_le _, by have h5 : (i 1).val < 16 := (i 1).isLt; show (i 1).val < 0 + 16; omega⟩
    | 2 => exact ⟨Nat.zero_le _, by have h5 : (i 2).val < 512 := (i 2).isLt; show (i 2).val < 0 + 512; omega⟩

theorem rowsR_disj (p p' : Fin 16) (h : p ≠ p') : Disjoint (rowsR p).set (rowsR p').set := by
  rw [Finset.disjoint_left]
  intro i hi hi'
  rw [mem_rowsR] at hi hi'
  exact h (Fin.ext (by omega))

theorem rowsR_cover : Finset.univ.biUnion (fun p => (rowsR p).set) = (Finset.univ : Finset S256x512.Idx) := by
  ext i
  simp only [Finset.mem_biUnion, Finset.mem_univ, true_and, iff_true]
  have h : (i 0).val < 256 := (i 0).isLt
  refine ⟨⟨(i 0).val / 16, by omega⟩, ?_⟩
  rw [mem_rowsR]
  show 16 * ((i 0).val / 16) ≤ _ ∧ _ < 16 * ((i 0).val / 16) + 16
  omega

theorem slotR_disj (p p' : Fin 16) (h : p ≠ p') : Disjoint (slotR p).set (slotR p').set := by
  rw [Finset.disjoint_left]
  intro i hi hi'
  rw [mem_slotR] at hi hi'
  exact h (Fin.ext (by omega))

theorem slotR_cover : Finset.univ.biUnion (fun p => (slotR p).set) = (Finset.univ : Finset S16x16x512.Idx) := by
  ext i
  simp only [Finset.mem_biUnion, Finset.mem_univ, true_and, iff_true]
  exact ⟨⟨(i 0).val, (i 0).isLt⟩, (mem_slotR _ i).mpr rfl⟩

theorem sb_set (p : Fin 16) : (rowsM sbM p).view.set = (rowsR p).set := View.set_slice_whole _ _
theorem gb_set (p : Fin 16) : (rowsM gbM p).view.set = (rowsR p).set := View.set_slice_whole _ _
theorem slot_set (p : Fin 16) : (slotM p).view.set = (slotR p).set :=
  (Memref.set_view_squeeze _ squeezes_S1x16x512_S16x512).trans (View.set_slice_whole _ _)

/-! ## Whole buffers and their pieces -/

theorem sb_split (c : Dev nD) (f : Vec F S256x512 .bf16) :
    ((sbM.view.loc (c : Thread nD τ) ↦{fullShare} f : sProp 𝕄)) = bigSep Finset.univ fun p : Fin 16 => sbAt c p f := by
  refine (Ring.pointsTo_blocks (ℓ := sbM.view.loc (c : Thread nD τ)) (fun p : Fin 16 => (rowsR p).set) rowsR_disj rowsR_cover f).trans ?_
  exact bigSep_congr fun p _ => by unfold sbAt; rw [sb_set p]

theorem gb_split (c : Dev nD) (f : Vec F S256x512 .bf16) :
    ((gbM.view.loc (c : Thread nD τ) ↦{fullShare} f : sProp 𝕄)) = bigSep Finset.univ fun p : Fin 16 => gbAt c p fullShare f := by
  refine (Ring.pointsTo_blocks (ℓ := gbM.view.loc (c : Thread nD τ)) (fun p : Fin 16 => (rowsR p).set) rowsR_disj rowsR_cover f).trans ?_
  exact bigSep_congr fun p _ => by unfold gbAt; rw [gb_set p]

theorem slot_split (c : Dev nD) (f : Vec F S16x16x512 .bf16) :
    ((r1M.view.loc (c : Thread nD τ) ↦{fullShare} f : sProp 𝕄)) = bigSep Finset.univ fun p : Fin 16 => slotAt c p f := by
  refine (Ring.pointsTo_blocks (ℓ := r1M.view.loc (c : Thread nD τ)) (fun p : Fin 16 => (slotR p).set) slotR_disj slotR_cover f).trans ?_
  exact bigSep_congr fun p _ => by unfold slotAt; rw [slot_set p]

theorem slot_join (c : Dev nD) (f₀ : Vec F S16x16x512 .bf16) :
    bigSep Finset.univ (fun p : Fin 16 => iprop(∃ f, slotAt (F := F) c p f)) ⊢ (iprop(∃ f : Vec F S16x16x512 .bf16, r1M.view.loc (c : Thread nD τ) ↦{fullShare} f) : sProp 𝕄) := by
  refine Entails.trans (Entails.of_eq ?_) (Ring.pointsTo_blocks_join_exists (ℓ := r1M.view.loc (c : Thread nD τ)) (fun p : Fin 16 => (slotR p).set) slotR_disj slotR_cover f₀)
  exact bigSep_congr fun p _ => by unfold slotAt; rw [slot_set p]; rfl

/-! ## Where an element of a piece lies -/

theorem rows_emb_sb (p : Fin 16) (j : S16x512.Idx) :
    (rowsM sbM p).view.emb j = at2 (16 * p.val + (j 0).val) (j 1).val (by have := (j 0).isLt; have hp := p.isLt; have h1 : (j 0).val < 16 := this; omega) (j 1).isLt := by
  funext a
  match a with
  | 0 => exact Fin.ext (by show 16 * p.val + 1 * (j 0).val = 16 * p.val + (j 0).val; omega)
  | 1 => exact Fin.ext (by show 0 + 1 * (j 1).val = (j 1).val; omega)

theorem rows_emb_gb (p : Fin 16) (j : S16x512.Idx) :
    (rowsM gbM p).view.emb j = at2 (16 * p.val + (j 0).val) (j 1).val (by have := (j 0).isLt; have hp := p.isLt; have h1 : (j 0).val < 16 := this; omega) (j 1).isLt :=
  rows_emb_sb p j

theorem slot_emb (p : Fin 16) (j : S16x512.Idx) :
    ((slotM p).view.emb j 0).val = p.val ∧ ((slotM p).view.emb j 1).val = (j 0).val ∧ ((slotM p).view.emb j 2).val = (j 1).val := by
  have h : (slotM p).view.emb j = (slotR p).emb (Shape.reshapeEquiv (squeezes_S1x16x512_S16x512).numel_eq j) := rfl
  have h2 : Shape.reshapeEquiv (squeezes_S1x16x512_S16x512).numel_eq j = Fin.cons ⟨0, Nat.one_pos⟩ j :=
    Shape.reshapeEquiv_cons_one (n := 2) (d := ![16, 512]) _ j
  rw [h, h2]
  refine ⟨?_, ?_, ?_⟩
  · show p.val + 1 * 0 = p.val; omega
  · show 0 + 1 * (j 0).val = (j 0).val; omega
  · show 0 + 1 * (j 1).val = (j 1).val; omega

/-! ## What the copies write -/

variable (P : Dev nD → Vec F S256x512 .bf16) (G : Vec F S256x512 .bf16)

/-- A copy of device `c`'s rows `p` into slot `c` of device `p` leaves there what `landed` says. -/
theorem landed_slot (c p : Dev nD) (f : Vec F S16x16x512 .bf16) :
    ((slotM c).view.loc (p : Thread nD τ) ↦[(slotM c).view.set]{fullShare}
        ((slotM c).view.write (Elt F) f ((rowsM sbM p).view.read (Elt F) (P c)) Finset.univ) : sProp 𝕄)
      = slotAt p c (landed P p) := by
  refine pointsTo_congr fun i hi => ?_
  obtain ⟨j, -, rfl⟩ := Finset.mem_map.mp hi
  obtain ⟨h0, h1, h2⟩ := slot_emb c j
  have e := View.write_emb_of_mem (Val := Elt F) (v := (slotM c).view) f ((rowsM sbM p).view.read (Elt F) (P c)) (M := Finset.univ) (x := j) (Finset.mem_univ j)
  refine e.trans ?_
  show P c ((rowsM sbM p).view.emb j) = landed P p ((slotM c).view.emb j)
  unfold landed
  rw [rows_emb_sb]
  have hc : (⟨((slotM c).view.emb j 0).val, ((slotM c).view.emb j 0).isLt⟩ : Dev nD) = c := Fin.ext h0
  rw [hc]
  congr 1
  funext a
  match a with
  | 0 => exact Fin.ext (by show 16 * p.val + (j 0).val = 16 * p.val + ((slotM c).view.emb j 1).val; rw [h1])
  | 1 => exact Fin.ext (by show (j 1).val = ((slotM c).view.emb j 2).val; rw [h2])

/-- A copy of a device's gathered rows `c` onto another's rows `c` leaves the same contents there. -/
theorem landed_rows (c p : Dev nD) (f : Vec F S256x512 .bf16) :
    ((rowsM gbM c).view.loc (p : Thread nD τ) ↦[(rowsM gbM c).view.set]{fullShare}
        ((rowsM gbM c).view.write (Elt F) f ((rowsM gbM c).view.read (Elt F) G) Finset.univ) : sProp 𝕄)
      = gbAt p c fullShare G := by
  refine pointsTo_congr fun i hi => ?_
  obtain ⟨j, -, rfl⟩ := Finset.mem_map.mp hi
  exact View.write_emb_of_mem (Val := Elt F) (v := (rowsM gbM c).view) f ((rowsM gbM c).view.read (Elt F) G) (M := Finset.univ) (x := j) (Finset.mem_univ j)

end Cert.Talk
-- ==== Proof.Steps.lean ====
/-
  The kernel's steps, one lemma per kind of step: a signal, the barrier wait, a copy of either exchange, a wait on a transfer
  cell, a load, a store. Each keeps an arbitrary rest of what is held.
-/
module

public import proofs.«01_k».proof.Proof.Geo

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- Device `c`'s TensorCore runs `p` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (P : Dev nD → Vec F S256x512 .bf16) (G : Vec F S256x512 .bf16)

/-- Every cell of the conversation, on every device, follows the schedule; every barrier has begun. -/
def recs (K : GSem nD τ sig → ℕ) : sProp 𝕄 :=
  iprop((bigSep Finset.univ fun d : Dev nD => cellInv ER (rd P G) (K (barCell d)) (barCell d))
    ∗ (bigSep Finset.univ fun x : Dev nD × Fin 4 × Fin 16 => cellInv ER (rd P G) (K (dCell x.1 x.2.1 x.2.2)) (dCell x.1 x.2.1 x.2.2))
    ∗ (bigSep Finset.univ fun d : Dev nD => reached ER (barCell d) 0))

instance recs_persistent (K : GSem nD τ sig → ℕ) : BI.Persistent (recs P G K) := by unfold recs; infer_instance

def ctx (K : GSem nD τ sig → ℕ) : sProp 𝕄 := iprop(recs P G K ∗ levAts L lv)

instance ctx_persistent (K : GSem nD τ sig → ℕ) : BI.Persistent (ctx P G K) := by unfold ctx; infer_instance

theorem ctx_bar (K : GSem nD τ sig → ℕ) (d : Dev nD) : ctx P G K ⊢ cellInv ER (rd P G) (K (barCell d)) (barCell d) := by
  unfold ctx recs
  iintro ⟨⟨H, -, -⟩, -⟩
  ihave H := (show (bigSep Finset.univ fun d : Dev nD => (cellInv ER (rd P G) (K (barCell d)) (barCell d) : sProp 𝕄))
    ⊢ cellInv ER (rd P G) (K (barCell d)) (barCell d) from bigSep_elim (Finset.mem_univ d)) $$ H
  iexact H

theorem ctx_dma (K : GSem nD τ sig → ℕ) (d : Dev nD) (a : Fin 4) (i : Fin 16) :
    ctx P G K ⊢ cellInv ER (rd P G) (K (dCell d a i)) (dCell d a i) := by
  unfold ctx recs
  iintro ⟨⟨-, H, -⟩, -⟩
  ihave H := (show (bigSep Finset.univ fun x : Dev nD × Fin 4 × Fin 16 => (cellInv ER (rd P G) (K (dCell x.1 x.2.1 x.2.2)) (dCell x.1 x.2.1 x.2.2) : sProp 𝕄))
    ⊢ cellInv ER (rd P G) (K (dCell d a i)) (dCell d a i) from bigSep_elim (Finset.mem_univ (d, a, i))) $$ H
  iexact H

theorem ctx_reached (K : GSem nD τ sig → ℕ) (d : Dev nD) : ctx P G K ⊢ reached ER (barCell d) 0 := by
  unfold ctx recs
  iintro ⟨⟨-, -, H⟩, -⟩
  ihave H := (show (bigSep Finset.univ fun d : Dev nD => (reached ER (barCell d) 0 : sProp 𝕄)) ⊢ reached ER (barCell d) 0
    from bigSep_elim (Finset.mem_univ d)) $$ H
  iexact H

theorem ctx_lev (K : GSem nD τ sig → ℕ) : ctx P G K ⊢ levAts L lv := by
  unfold ctx; iintro ⟨-, H⟩; iexact H

/-- What the levels alone give, the context gives. -/
theorem ctx_of_lev (K : GSem nD τ sig → ℕ) {X : sProp 𝕄} (h : (levAts L lv : sProp 𝕄) ⊢ X) : ctx P G K ⊢ X := (ctx_lev P G K).trans h

/-- What device `c` owes is `O`; which waits it has recorded does not matter. -/
def ow (c : Dev nD) (O : CellTallies nD τ sig Unit) : sProp 𝕄 := iprop(∃ W, owes (c : Thread nD τ) O W)

/-! ## Families over steps -/

theorem steps_take {n : ℕ} (h : n < 16) (Φ : ℕ → sProp 𝕄) :
    bigSep (Finset.Ico n 16) Φ = iprop(Φ n ∗ bigSep (Finset.Ico (n + 1) 16) Φ) := by
  rw [ico_bot h, bigSep_insert (ico_bot_notMem n)]; rfl

theorem steps_put {n : ℕ} (h : 1 ≤ n) (Φ : ℕ → sProp 𝕄) :
    bigSep (Finset.Ico 1 (n + 1)) Φ = iprop(Φ n ∗ bigSep (Finset.Ico 1 n) Φ) := by
  rw [ico_top h, bigSep_insert (ico_top_notMem n)]; rfl

/-- A family over the steps is the family over the other devices. -/
theorem steps_devs (c : Dev nD) (Φ : Dev nD → sProp 𝕄) :
    bigSep (Finset.Ico 1 16) (fun k => Φ (pk c k)) = bigSep (Finset.univ.erase c) Φ := by
  rw [← image_pk c]
  refine (Finset.fold_image (fun k hk k' hk' e => ?_)).symm
  exact pk_inj c (Finset.mem_Ico.mp hk).2 (Finset.mem_Ico.mp hk').2 e

/-! ## Levels -/

theorem ow_pos (f : ℕ → GSem nD τ sig) (k' : ℕ) (S : Finset ℕ) (g : GSem nD τ sig) (u : Unit)
    (h : 0 < (∑ k ∈ S, tallyAt (f k) () k' : CellTallies nD τ sig Unit) g u) : ∃ k ∈ S, g = f k := by
  classical
  by_contra hn
  push Not at hn
  have h0 : (∑ k ∈ S, tallyAt (f k) () k' : CellTallies nD τ sig Unit) g u = 0 := by
    rw [Finset.sum_apply, Finsupp.finset_sum_apply]
    refine Finset.sum_eq_zero fun k hk => ?_
    rw [tallyAt_apply, if_neg (fun e => hn k hk e.1)]
  omega

theorem lv_tc (c : Dev nD) (sm : SemLoc sig) : lv ((c : Thread nD τ), sm) () = lvOf sm := rfl

/-- A wait at a cell of level `b`, owing only landings of higher level. -/
theorem may_wait (c : Dev nD) (sm : SemLoc sig) (O : CellTallies nD τ sig Unit) (b : ℕ) (hb : lvOf sm ≤ b)
    (hO : ∀ g u, 0 < O g u → ∃ (d : Dev nD) (sm' : SemLoc sig), g = ((d : Thread nD τ), sm') ∧ b < lvOf sm') :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, sm', rfl, -⟩ := hO g u hg; rw [L_tc]; exact Finset.mem_singleton_self _)
    (fun p hp => by rw [Finset.mem_singleton.mp hp]; exact hb)
    (fun g u hg => by obtain ⟨d, sm', rfl, h⟩ := hO g u hg; exact h)

theorem lv1 (i : Fin 16) : lvOf (.dma (dmaS 1 i)) = 2 := by rw [lvOf_dma]; rfl
theorem lv3 (i : Fin 16) : lvOf (.dma (dmaS 3 i)) = 3 := by rw [lvOf_dma]; rfl

theorem may_bar (c : Dev nD) : (levAts L lv : sProp 𝕄) ⊢ MayWait (c : Thread nD τ) (.reg barS) () (ow3 c 1 + ow1 c 1) := by
  refine may_wait c _ _ 1 (Nat.le_refl 1) fun g u h => ?_
  have h' : 0 < ow3 c 1 g u + ow1 c 1 g u := h
  rcases Nat.eq_zero_or_pos (ow3 c 1 g u) with h3 | h3
  · rw [h3, Nat.zero_add] at h'
    obtain ⟨k, -, rfl⟩ := ow_pos (fun k => dCell (pk c k) 1 c) N _ g u h'
    exact ⟨pk c k, _, rfl, by rw [lv1]; decide⟩
  · obtain ⟨k, -, rfl⟩ := ow_pos (fun k => dCell (pk c k) 3 c) N _ g u h3
    exact ⟨pk c k, _, rfl, by rw [lv3]; decide⟩

theorem may_recv1 (c : Dev nD) (i : Fin 16) : (levAts L lv : sProp 𝕄) ⊢ MayWait (c : Thread nD τ) (.dma (dmaS 1 i)) () (ow3 c 1) := by
  refine may_wait c _ _ 2 (by rw [lv1]) fun g u h => ?_
  obtain ⟨k, -, rfl⟩ := ow_pos (fun k => dCell (pk c k) 3 c) N _ g u h
  exact ⟨pk c k, _, rfl, by rw [lv3]; decide⟩

theorem may_free (c : Dev nD) (sm : SemLoc sig) : (levAts L lv : sProp 𝕄) ⊢ MayWait (c : Thread nD τ) sm () 0 := by
  rw [MayWait_zero]; iintro -; iempintro

theorem ow1_end (c : Dev nD) : ow1 c 16 = 0 := rfl
theorem ow3_end (c : Dev nD) : ow3 c 16 = 0 := rfl
theorem owB_end (c : Dev nD) : owB c 16 = 0 := rfl

/-! ## The signals and the barrier -/

theorem signal_word (d : Dev nD) (sem : Sem sig) :
    (semSignalWord d sem 1#32 : Prog (TpuEff nD τ sig (Elt F) Λ₀ .tc) PUnit) = .op (.semSignal ((d : Dev nD) : Thread nD τ) sem ((1 : ℕ) : ℤ)) .ret := by
  unfold semSignalWord; rw [show (1#32 : BitVec 32).toInt = ((1 : ℕ) : ℤ) from by decide]
theorem wait_word (sem : Sem sig) :
    (semWaitWord sem 15#32 : Prog (TpuEff nD τ sig (Elt F) Λ₀ .tc) PUnit) = .op (.semWait sem ((15 : ℕ) : ℤ)) .ret := by
  unfold semWaitWord; rw [show (15#32 : BitVec 32).toInt = ((15 : ℕ) : ℤ) from by decide]

/-- Before the signal of step `n`: what the remaining signals hand over, and what is owed. -/
def phA (c : Dev nD) (n : ℕ) : sProp 𝕄 :=
  iprop(bigSep (Finset.Ico n 16) (fun k => iprop(dutyTok ER (barCell (pk c k)) 0 c ∗ barPay (F := F) (pk c k) c))
    ∗ ow c (ow3 c 1 + ow1 c 1 + owB c n))

theorem signal_step (K : GSem nD τ sig → ℕ) (c : Dev nD) (n : ℕ) (h1 : 1 ≤ n) (h2 : n < 16) {d : Dev nD} (hd : d = pk c n)
    {sem : Sem sig} (hs : sem = barS) {Fr : sProp 𝕄} {Q : PUnit → sProp 𝕄}
    (hk : iprop(ctx P G K ∗ phA c (n + 1) ∗ Fr) ⊢ Q ⟨⟩) :
    iprop(ctx P G K ∗ phA c n ∗ Fr) ⊢ WP c (semSignalWord (d : Dev nD) sem 1#32) Q := by
  subst hd; subst hs
  have hne : c ≠ pk c n := (pk_ne c h1 h2).symm
  have hO : ow3 c 1 + ow1 c 1 + owB c n = (ow3 c 1 + ow1 c 1 + owB c (n + 1)) + tallyAt (barCell (pk c n)) () 1 := by
    unfold owB; rw [ow_step _ h2, ← add_assoc]
  unfold phA ow
  rw [steps_take h2, signal_word]
  iintro ⟨#Hc, ⟨⟨⟨Ht, Hp⟩, Hrest⟩, ⟨%W, HO⟩⟩, Hfr⟩
  ihave #Hi := (ctx_bar P G K (pk c n)) $$ Hc
  ihave #Hr := (ctx_reached P G K (pk c n)) $$ Hc
  iapply (Rounds.wp_signal 𝒱₀ ER (rd P G) (c : Thread nD τ) none (dst := (pk c n : Thread nD τ)) (sem := barS) (r := 0) (d := c) (κ := K (barCell (pk c n)))
      (by rw [duties_bar]; exact Finset.mem_erase.mpr ⟨hne, Finset.mem_univ _⟩) (amount_bar P G (pk c n) c) () (ow3 c 1 + ow1 c 1 + owB c (n + 1)) hO)
    $$ [HO Ht Hp]
  · isplitr; · iexact Hi
    isplitl [HO]; · iexact HO
    isplitl [Ht]; · iexact Ht
    isplitl [Hp]; · rw [payload_bar]; iexact Hp
    iexact Hr
  iintro HO
  rw [wp_ret]; imodintro
  iapply hk
  unfold phA ow
  isplitr; · iexact Hc
  isplitr [Hfr]
  · isplitl [Hrest]; · iexact Hrest
    iexists W; iexact HO
  iexact Hfr

theorem bar_step (K : GSem nD τ sig → ℕ) (c : Dev nD) {sem : Sem sig} (hs : sem = barS) {Fr : sProp 𝕄} {Q : PUnit → sProp 𝕄}
    (hk : iprop(ctx P G K ∗ (bigSep (Finset.Ico 1 16) (fun k => barPay (F := F) c (pk c k)) ∗ ow c (ow3 c 1 + ow1 c 1) ∗ atPos ER (barCell c) 1 ∅ 0) ∗ Fr) ⊢ Q ⟨⟩) :
    iprop(ctx P G K ∗ (phA c 16 ∗ cred (tallyAt (barCell c) () 15) ∗ atPos ER (barCell c) 0 ∅ 0) ∗ Fr) ⊢ WP c (semWaitWord sem 15#32) Q := by
  subst hs
  unfold phA ow
  rw [owB_end, add_zero, wait_word]
  iintro ⟨#Hc, ⟨⟨-, ⟨%W, HO⟩⟩, Hcr, Hat⟩, Hfr⟩
  ihave #Hi := (ctx_bar P G K c) $$ Hc
  iapply (Rounds.wp_wait_rest_token 𝒱₀ ER (rd P G) (c : Thread nD τ) none (κ := K (barCell c))
      (wpE_semWait_eq 𝒱₀ (c : Thread nD τ) none Set.univ) (Set.mem_univ _) () (O := ow3 c 1 + ow1 c 1) (W := W) (R := 0) (m := 0) (T := ∅)
      ((Nat.zero_add 15).trans (expect_bar P G c).symm)) $$ [Hcr HO Hat]
  · isplitr; · iexact Hi
    isplitl [Hcr]; · iexact Hcr
    isplitl [HO]; · iexact HO
    isplitr; · iapply (ctx_of_lev P G K (may_bar c)); iexact Hc
    iexact Hat
  iintro ⟨HO, Hat, -, Hpay⟩
  rw [wp_ret]; imodintro
  iapply hk
  isplitr; · iexact Hc
  isplitr [Hfr]
  · isplitl [Hpay]
    · rw [steps_devs c (fun d => barPay (F := F) c d)]
      iapply (Entails.of_eq (show bigSep ((rd P G).duties (barCell c) 0 \ ∅) (fun u => (rd P G).payload (barCell c) 0 u) = _ by
        rw [Finset.sdiff_empty, duties_bar]; rfl)); iexact Hpay
    isplitl [HO]; · unfold ow; iexists _; iexact HO
    iexact Hat
  iexact Hfr

/-! ## The copies of the first exchange -/

/-- Before the copy of step `n`: the rows and slots of the remaining copies with the right to complete them, what is owed,
    and the claims on the source cells of the copies made. -/
def phB (c : Dev nD) (n : ℕ) : sProp 𝕄 :=
  iprop(bigSep (Finset.Ico n 16) (fun k => iprop(sbAt c (pk c k) (P c) ∗ (∃ f, slotAt (pk c k) c f)
        ∗ dutyTok ER (dCell c 0 (kf k)) 0 (0 : Dev nD) ∗ reached ER (dCell c 0 (kf k)) 0
        ∗ dutyTok ER (dCell (pk c k) 1 c) 0 (0 : Dev nD) ∗ reached ER (dCell (pk c k) 1 c) 0))
    ∗ ow c (ow3 c 1 + ow1 c n)
    ∗ bigSep (Finset.Ico 1 n) (fun k => cred (tallyAt (dCell c 0 (kf k)) () N)))

theorem duty0 (c : Dev nD) {k : ℕ} (h1 : 1 ≤ k) (h2 : k < 16) : (0 : Dev nD) ∈ (rd P G).duties (dCell c 0 (kf k)) 0 := by
  rw [duties_dma, if_pos (show used c ((0 : Fin 4)).val _ from used0 c h1 h2)]; exact Finset.mem_singleton_self _
theorem duty2 (c : Dev nD) {k : ℕ} (h1 : 1 ≤ k) (h2 : k < 16) : (0 : Dev nD) ∈ (rd P G).duties (dCell c 2 (kf k)) 0 := by
  rw [duties_dma, if_pos (show used c ((2 : Fin 4)).val _ from used2 c h1 h2)]; exact Finset.mem_singleton_self _
theorem duty1 (c d : Dev nD) (h : d ≠ c) : (0 : Dev nD) ∈ (rd P G).duties (dCell c 1 d) 0 := by
  rw [duties_dma, if_pos (show used c ((1 : Fin 4)).val _ from used1 c d h)]; exact Finset.mem_singleton_self _
theorem duty3 (c d : Dev nD) (h : d ≠ c) : (0 : Dev nD) ∈ (rd P G).duties (dCell c 3 d) 0 := by
  rw [duties_dma, if_pos (show used c ((3 : Fin 4)).val _ from used3 c d h)]; exact Finset.mem_singleton_self _

theorem send1_step (K : GSem nD τ sig → ℕ) (c : Dev nD) (n : ℕ) (h1 : 1 ≤ n) (h2 : n < 16) {d : Dev nD} (hd : d = pk c n)
    {src : Memref sig .tc .vmem S16x512 .bf16} (hsrc : src = rowsM sbM (pk c n))
    {dst : Memref sig .tc .vmem S16x512 .bf16} (hdst : dst = slotM c)
    {sS sR : DmaSem sig} (hsS : sS = dmaS 0 (kf n)) (hsR : sR = dmaS 1 c)
    {hws : src.view.WordExact} {hwd : dst.view.WordExact} {hrt : _} {Fr : sProp 𝕄} {Q : PUnit → sProp 𝕄}
    (hk : iprop(ctx P G K ∗ phB P c (n + 1) ∗ Fr) ⊢ Q ⟨⟩) :
    iprop(ctx P G K ∗ phB P c n ∗ Fr) ⊢ WP c (Prog.lift (.enqueueDma src (.remote (Dev.tc d) dst (.dma sS)) (.dma sR) hws hwd hrt)) Q := by
  subst hd; subst hsrc; subst hdst; subst hsS; subst hsR
  have hne : c ≠ pk c n := (pk_ne c h1 h2).symm
  have hO : ow3 c 1 + ow1 c n = (ow3 c 1 + ow1 c (n + 1)) + tallyAt (dCell (pk c n) 1 c) () N := by
    unfold ow1; rw [ow_step _ h2, add_assoc]
  unfold phB ow
  rw [steps_take h2]
  iintro ⟨#Hc, ⟨⟨⟨Hsb, ⟨%fd, Hsl⟩, Ht0, Hr0, Ht1, Hr1⟩, Hrest⟩, ⟨%W, HO⟩, Hcr⟩, Hfr⟩
  ihave #Hi0 := (ctx_dma P G K c 0 (kf n)) $$ Hc
  ihave #Hi1 := (ctx_dma P G K (pk c n) 1 c) $$ Hc
  iapply (Rounds.wp_send_pointsTo 𝒱₀ ER (rd P G) (c : Thread nD τ) none (c' := (pk c n : Thread nD τ)) (src := rowsM sbM (pk c n)) (dst := slotM c)
      (sS := .dma (dmaS 0 (kf n))) (sem := .dma (dmaS 1 c)) (q := fullShare) (fs := P c) (κ₁ := K (dCell c 0 (kf n))) (κ₂ := K (dCell (pk c n) 1 c))
      (r₁ := 0) (r₂ := 0) (d₁ := (0 : Dev nD)) (d₂ := (0 : Dev nD)) (fd := fd)
      (duty0 P G c h1 h2) (duty1 P G (pk c n) c hne)
      () () N rfl (amount_dma P G c 0 (kf n) 0) (amount_dma P G (pk c n) 1 c 0) (ow3 c 1 + ow1 c (n + 1)) hO (W := W)
      (by rw [payload_dma]; exact Entails.of_eq (dmaPay0 P G c h2).symm)
      (by rw [payload_dma]; exact Entails.of_eq ((landed_slot P c (pk c n) fd).trans (dmaPay1 P G (pk c n) c).symm))) $$ [Hsb Hsl HO Ht0 Ht1 Hr0 Hr1]
  · isplitr; · iexact Hi0
    isplitr; · iexact Hi1
    isplitl [Hsb]; · iexact Hsb
    isplitl [Hsl]; · iexact Hsl
    isplitl [HO]; · iexact HO
    isplitl [Ht0]; · iexact Ht0
    isplitl [Hr0]; · iexact Hr0
    isplitl [Ht1]; · iexact Ht1
    iexact Hr1
  iintro ⟨Hcn, HO⟩
  rw [wp_ret]; imodintro
  iapply hk
  unfold phB ow
  rw [steps_put h1]
  isplitr; · iexact Hc
  isplitr [Hfr]
  · isplitl [Hrest]; · iexact Hrest
    isplitl [HO]; · iexists W; iexact HO
    isplitl [Hcn]; · iexact Hcn
    iexact Hcr
  iexact Hfr

/-! ## The copies of the second exchange -/

/-- Before the copy of step `n` of the second exchange: a share of the device's own gathered rows for each remaining copy, the
    rows those copies write, the right to complete them, what is owed, and the claims on the source cells. -/
def phD (c : Dev nD) (n : ℕ) : sProp 𝕄 :=
  iprop(bigSep (Finset.Ico n 16) (fun k => iprop(gbAt c c (qk k) G ∗ (∃ f, gbAt (pk c k) c fullShare f)
        ∗ dutyTok ER (dCell c 2 (kf k)) 0 (0 : Dev nD) ∗ reached ER (dCell c 2 (kf k)) 0
        ∗ dutyTok ER (dCell (pk c k) 3 c) 0 (0 : Dev nD) ∗ reached ER (dCell (pk c k) 3 c) 0))
    ∗ ow c (ow3 c n)
    ∗ bigSep (Finset.Ico 1 n) (fun k => cred (tallyAt (dCell c 2 (kf k)) () N)))

theorem send2_step (K : GSem nD τ sig → ℕ) (c : Dev nD) (n : ℕ) (h1 : 1 ≤ n) (h2 : n < 16) {d : Dev nD} (hd : d = pk c n)
    {src : Memref sig .tc .vmem S16x512 .bf16} (hsrc : src = rowsM gbM c)
    {dst : Memref sig .tc .vmem S16x512 .bf16} (hdst : dst = rowsM gbM c)
    {sS sR : DmaSem sig} (hsS : sS = dmaS 2 (kf n)) (hsR : sR = dmaS 3 c)
    {hws : src.view.WordExact} {hwd : dst.view.WordExact} {hrt : _} {Fr : sProp 𝕄} {Q : PUnit → sProp 𝕄}
    (hk : iprop(ctx P G K ∗ phD G c (n + 1) ∗ Fr) ⊢ Q ⟨⟩) :
    iprop(ctx P G K ∗ phD G c n ∗ Fr) ⊢ WP c (Prog.lift (.enqueueDma src (.remote (Dev.tc d) dst (.dma sS)) (.dma sR) hws hwd hrt)) Q := by
  subst hd; subst hsrc; subst hdst; subst hsS; subst hsR
  have hne : c ≠ pk c n := (pk_ne c h1 h2).symm
  have hO : ow3 c n = ow3 c (n + 1) + tallyAt (dCell (pk c n) 3 c) () N := by
    unfold ow3; rw [ow_step _ h2]
  unfold phD ow
  rw [steps_take h2]
  iintro ⟨#Hc, ⟨⟨⟨Hsb, ⟨%fd, Hsl⟩, Ht0, Hr0, Ht1, Hr1⟩, Hrest⟩, ⟨%W, HO⟩, Hcr⟩, Hfr⟩
  ihave #Hi0 := (ctx_dma P G K c 2 (kf n)) $$ Hc
  ihave #Hi1 := (ctx_dma P G K (pk c n) 3 c) $$ Hc
  iapply (Rounds.wp_send_pointsTo 𝒱₀ ER (rd P G) (c : Thread nD τ) none (c' := (pk c n : Thread nD τ)) (src := rowsM gbM c) (dst := rowsM gbM c)
      (sS := .dma (dmaS 2 (kf n))) (sem := .dma (dmaS 3 c)) (q := qk n) (fs := G) (κ₁ := K (dCell c 2 (kf n))) (κ₂ := K (dCell (pk c n) 3 c))
      (r₁ := 0) (r₂ := 0) (d₁ := (0 : Dev nD)) (d₂ := (0 : Dev nD)) (fd := fd)
      (duty2 P G c h1 h2) (duty3 P G (pk c n) c hne)
      () () N rfl (amount_dma P G c 2 (kf n) 0) (amount_dma P G (pk c n) 3 c 0) (ow3 c (n + 1)) hO (W := W)
      (by rw [payload_dma]; exact Entails.of_eq (dmaPay2 P G c h2).symm)
      (by rw [payload_dma]; exact Entails.of_eq ((landed_rows G c (pk c n) fd).trans (dmaPay3 P G (pk c n) c).symm))) $$ [Hsb Hsl HO Ht0 Ht1 Hr0 Hr1]
  · isplitr; · iexact Hi0
    isplitr; · iexact Hi1
    isplitl [Hsb]; · iexact Hsb
    isplitl [Hsl]; · iexact Hsl
    isplitl [HO]; · iexact HO
    isplitl [Ht0]; · iexact Ht0
    isplitl [Hr0]; · iexact Hr0
    isplitl [Ht1]; · iexact Ht1
    iexact Hr1
  iintro ⟨Hcn, HO⟩
  rw [wp_ret]; imodintro
  iapply hk
  unfold phD ow
  rw [steps_put h1]
  isplitr; · iexact Hc
  isplitr [Hfr]
  · isplitl [Hrest]; · iexact Hrest
    isplitl [HO]; · iexists W; iexact HO
    isplitl [Hcn]; · iexact Hcn
    iexact Hcr
  iexact Hfr

/-! ## The waits on transfer cells -/

/-- Before the wait of step `n` on array `a`, whose cell at step `k` is `idx k`: the claims and positions of the remaining
    cells, what is owed, and what the waits made have handed over. -/
def phW (c : Dev nD) (a : Fin 4) (idx : ℕ → Fin 16) (O : CellTallies nD τ sig Unit) (n : ℕ) : sProp 𝕄 :=
  iprop(bigSep (Finset.Ico n 16) (fun k => iprop(cred (tallyAt (dCell c a (idx k)) () N) ∗ atPos ER (dCell c a (idx k)) 0 ∅ 0))
    ∗ ow c O
    ∗ bigSep (Finset.Ico 1 n) (fun k => iprop(dmaPay P G c a.val (idx k).val ∗ atPos ER (dCell c a (idx k)) 1 ∅ 0)))

theorem wait_step (K : GSem nD τ sig → ℕ) (c : Dev nD) (a : Fin 4) (idx : ℕ → Fin 16) (O : CellTallies nD τ sig Unit) (n : ℕ) (h1 : 1 ≤ n) (h2 : n < 16)
    (hu : used c a.val (idx n).val)
    (hmw : (levAts L lv : sProp 𝕄) ⊢ MayWait (c : Thread nD τ) (.dma (dmaS a (idx n))) () O)
    {src dst : Memref sig .tc .vmem S16x512 .bf16} {sem : DmaSem sig} (hsem : sem = dmaS a (idx n)) (hN : dst.view.dmaCredit = N)
    {hws : src.view.WordExact} {hwd : dst.view.WordExact} {Fr : sProp 𝕄} {Q : PUnit → sProp 𝕄}
    (hk : iprop(ctx P G K ∗ phW P G c a idx O (n + 1) ∗ Fr) ⊢ Q ⟨⟩) :
    iprop(ctx P G K ∗ phW P G c a idx O n ∗ Fr) ⊢ WP c (Prog.lift (.waitDma2 sem src dst hws hwd)) Q := by
  subst hsem
  unfold phW ow
  rw [steps_take h2]
  iintro ⟨#Hc, ⟨⟨⟨Hcr, Hat⟩, Hrest⟩, ⟨%W, HO⟩, Hdone⟩, Hfr⟩
  ihave #Hi := (ctx_dma P G K c a (idx n)) $$ Hc
  iapply (Rounds.wp_wait_rest_token 𝒱₀ ER (rd P G) (c : Thread nD τ) none (κ := K (dCell c a (idx n)))
      (wpE_waitDma2_eq (src := src) (dst := dst) 𝒱₀ (c : Thread nD τ) none Set.univ) (Set.mem_univ _) () (O := O) (W := W) (R := 0) (m := 0) (T := ∅)
      ((Nat.zero_add _).trans (hN.trans (expect_dma P G c a (idx n) hu).symm))) $$ [Hcr HO Hat]
  · isplitr; · iexact Hi
    isplitl [Hcr]; · rw [hN]; iexact Hcr
    isplitl [HO]; · iexact HO
    isplitr; · iapply (ctx_of_lev P G K hmw); iexact Hc
    iexact Hat
  iintro ⟨HO, Hat, -, Hpay⟩
  rw [wp_ret]; imodintro
  iapply hk
  unfold phW ow
  rw [steps_put h1]
  isplitr; · iexact Hc
  isplitr [Hfr]
  · isplitl [Hrest]; · iexact Hrest
    isplitl [HO]; · iexists _; iexact HO
    isplitr [Hdone]
    · isplitl [Hpay]
      · iapply (Entails.of_eq (rest_dma P G c a (idx n) hu)); iexact Hpay
      iexact Hat
    iexact Hdone
  iexact Hfr

/-! ## Loads and stores -/

theorem load_step (c : Dev nD) {s : Shape} {e : EltTy} {m : Memref sig .tc .vmem s e} {r : LoadRect s} {hl : m.view.LoadsAt r}
    {S : Finset (Idx (m.view.loc (c : Thread nD τ)))} {q : PosShare TreeShare} {f : Buf (Elt F) (m.view.loc (c : Thread nD τ))}
    {A : sProp 𝕄} {Q : _ → sProp 𝕄} (hS : m.view.setOn r.set ⊆ S)
    (hA : A ⊢ iprop((m.view.loc (c : Thread nD τ) ↦[S]{q} f) ∗ ((m.view.loc (c : Thread nD τ) ↦[S]{q} f) -∗ A)))
    (hk : A ⊢ Q (m.view.readAt (Elt F) r f)) :
    A ⊢ WP c (Prog.lift (.load m r hl)) Q := by
  refine hA.trans ?_
  iintro ⟨Hp, Hw⟩
  iapply (wp_load (defs := defs₀ (F := F)) 𝒱₀ (c : Thread nD τ) none Set.univ (m := m) (r := r) (hl := hl) (q := q) (f := f) hS) $$ Hp
  iintro Hp
  rw [wp_ret]; imodintro
  iapply hk
  iapply Hw; iexact Hp

theorem store_step (c : Dev nD) {s : Shape} {e : EltTy} {m : Memref sig .tc .vmem s e} {r : Rect s} {w : r.shape.Idx → Elt F e} {Mk : Finset r.shape.Idx}
    {hx : (m.access r).Stores Mk} {hm : Mk = Finset.univ ∨ ∀ a, r.stride a = 1}
    {S : Finset (Idx ((m.access r).loc (c : Thread nD τ)))} {f : Buf (Elt F) ((m.access r).loc (c : Thread nD τ))}
    {A B : sProp 𝕄} {Q : PUnit → sProp 𝕄} (hS : (m.access r).setOn Mk ⊆ S)
    (hA : A ⊢ iprop(((m.access r).loc (c : Thread nD τ) ↦[S]{fullShare} f)
      ∗ (((m.access r).loc (c : Thread nD τ) ↦[S]{fullShare} ((m.access r).write (Elt F) f w Mk)) -∗ B)))
    (hk : B ⊢ Q ⟨⟩) :
    A ⊢ WP c (Prog.lift (.store m r w Mk hx hm)) Q := by
  refine hA.trans ?_
  iintro ⟨Hp, Hw⟩
  iapply (wp_store (defs := defs₀ (F := F)) 𝒱₀ (c : Thread nD τ) none Set.univ (m := m) (r := r) (w := w) (Mk := Mk) (hx := hx) (hm := hm) (f := f) hS) $$ Hp
  iintro Hp
  rw [wp_ret]; imodintro
  iapply hk
  iapply Hw; iexact Hp

end Cert.Talk
-- ==== Proof.Names.lean ====
/-
  The views and semaphores the kernel's text names, as the pieces and cells of the conversation: a computed row offset names
  the rows of a device, a computed slot offset its slot, a computed semaphore number its cell.
-/
module

public import proofs.«01_k».proof.Proof.Steps

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

/-! ## Row offsets -/

/-- Sixteen rows from row `16 p` are the rows of device `p`, however the offset is spelled. -/
theorem rows_of (M : Memref sig .tc .vmem S256x512 .bf16) {o : Fin 2 → Nat} (p : Fin 16) (ho : o = ![16 * p.val, 0]) (hb) (hu) :
    M.slice (Rect.unit (s := S256x512) o S16x512.size hb) hu = rowsM M p := by
  subst ho; rfl

/-- One slot from slot `p` is the slot of device `p`, however the offset is spelled. -/
theorem slot_of {o : Fin 3 → Nat} (p : Fin 16) (ho : o = ![p.val, 0, 0]) (hb) (hu) :
    (r1M.slice (Rect.unit (s := S16x16x512) o S1x16x512.size hb) hu).squeeze S16x512 squeezes_S1x16x512_S16x512 = slotM p := by
  subst ho; rfl

theorem pk_off (c : Dev nD) (r : Fin 15) : (c.val + r.val + 1) % 16 = (pk c (1 + r.val)).val := by
  rw [pk_val]; congr 1; omega

theorem off3 (c : Dev nD) (r : Fin 15) : k0_off3 c (BitVec.ofNat 32 (1 + r.val)) = ![16 * (pk c (1 + r.val)).val, 0] := by
  rw [Gen.k0_off3_eq, pk_off]
theorem off5 (c : Dev nD) (r : Fin 15) : k0_off5 c (BitVec.ofNat 32 (1 + r.val)) = ![(pk c (1 + r.val)).val] := by
  rw [Gen.k0_off5_eq, pk_off]
theorem off6 (c : Dev nD) (r : Fin 15) : k0_off6 c (BitVec.ofNat 32 (1 + r.val)) = ![(pk c (1 + r.val)).val, 0, 0] := by
  rw [Gen.k0_off6_eq, pk_off]
theorem off7 (c : Dev nD) (r : Fin 15) : k0_off7 c (BitVec.ofNat 32 (1 + r.val)) = ![(pk c (1 + r.val)).val, 0, 0] := by
  rw [Gen.k0_off7_eq, pk_off]

/-! ## Semaphores -/

/-- The semaphore at a position of one of the kernel's four arrays. -/
theorem sem_of0 {o : Fin 1 → Nat} (p : Fin 16) (ho : o = ![p.val]) (hb) :
    ((cc0_scratch3.slice (Rect.unit (s := S16) o S1.size hb)).squeeze S_ squeezes_S1_S_).sem = dmaS 0 p := by
  subst ho; revert hb; revert p; decide
theorem sem_of1 {o : Fin 1 → Nat} (p : Fin 16) (ho : o = ![p.val]) (hb) :
    ((cc0_scratch4.slice (Rect.unit (s := S16) o S1.size hb)).squeeze S_ squeezes_S1_S_).sem = dmaS 1 p := by
  subst ho; revert hb; revert p; decide
theorem sem_of2 {o : Fin 1 → Nat} (p : Fin 16) (ho : o = ![p.val]) (hb) :
    ((cc0_scratch5.slice (Rect.unit (s := S16) o S1.size hb)).squeeze S_ squeezes_S1_S_).sem = dmaS 2 p := by
  subst ho; revert hb; revert p; decide
theorem sem_of3 {o : Fin 1 → Nat} (p : Fin 16) (ho : o = ![p.val]) (hb) :
    ((cc0_scratch6.slice (Rect.unit (s := S16) o S1.size hb)).squeeze S_ squeezes_S1_S_).sem = dmaS 3 p := by
  subst ho; revert hb; revert p; decide

end Cert.Talk

end
-- ==== Proof.Contents.lean ====
/-
  What the buffers hold: a device's partial product as a function of its windows, the rows it reduces, and what every device's
  gathered buffer holds at the end. And what the kernel's loads and stores read and leave, in those terms.
-/
module

public import proofs.«01_k».proof.Proof.Names
public import proofs.«01_k».proof.Proof.Gen.KernelIdeal.Skeleton
public import Idealize.ShloMosaic.Lib.Pointwise.Index

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Blocks of the windows -/

/-- The activations of batch entry `b`. -/
def xBlk (f : Vec F S2x128x512 .bf16) (b : Fin 2) : Vec F S1x128x512 .bf16 := fun j => f (ix3 b (j 1) (j 2))
/-- One head of the keys or of the values of batch entry `b`. -/
def hBlk (f : Vec F S2x4x128x64 .bf16) (b : Fin 2) (h : Fin 4) : Vec F S1x1x128x64 .bf16 := fun j => f (ix4 b h (j 2) (j 3))

/-- Row `r`, column `q` of the block of sixteen rows of device `p`. -/
abbrev atRow (p : Fin 16) (j : S16x512.Idx) : S256x512.Idx :=
  at2 (16 * p.val + (j 0).val) (j 1).val (by have := (j 0).isLt; have hp := p.isLt; have h1 : (j 0).val < 16 := this; omega) (j 1).isLt
/-- The block of sixteen rows of device `p`. -/
def rowBlk (f : Vec F S256x512 .bf16) (p : Fin 16) : Vec F S16x512 .bf16 := fun j => f (atRow p j)
/-- One slot of the landing buffer. -/
def slotBlk (f : Vec F S16x16x512 .bf16) (p : Fin 16) : Vec F S1x16x512 .bf16 := fun j => f (ix3 p (j 1) (j 2))

/-! ## A device's partial product -/

section Partial

variable (f0 : Vec F S2x128x512 .bf16) (f1 : Vec F S512x256 .bf16) (f2 f3 : Vec F S2x4x128x64 .bf16) (f4 : Vec F S256x512 .bf16)

/-- The projected queries of the first batch entry. -/
def q0 : FVec F S128x256 .f32 := Gen.k0_pay3 f1 (xBlk f0 0)
/-- The projected queries of the second batch entry. -/
def q1 : FVec F S128x256 .f32 := Gen.k0_pay13 (Gen.k0_pay1 f1) (xBlk f0 1)

/-- The rows of the first batch entry. -/
def part0 : Vec F S128x512 .bf16 :=
  Gen.k0_pay12 (Gen.k0_pay2 f4)
    (Gen.k0_pay5 (Gen.k0_pay4 f1 (xBlk f0 0)) (hBlk f2 0 0) (hBlk f3 0 0))
    (Gen.k0_pay8 (Gen.k0_pay6 (hBlk f3 0 1)) (Gen.k0_pay7 (q0 f0 f1) (hBlk f2 0 1)) (constant S128x64 .f32 0x00000000#32))
    (Gen.k0_pay9 (q0 f0 f1) (hBlk f2 0 2) (hBlk f3 0 2))
    (Gen.k0_pay10 (hBlk f3 0 3)) (Gen.k0_pay11 (q0 f0 f1) (hBlk f2 0 3))

/-- The rows of the second batch entry. -/
def part1 : Vec F S128x512 .bf16 :=
  Gen.k0_pay20 (Gen.k0_pay2 f4) (q1 f0 f1)
    (Gen.k0_pay14 (Gen.k0_pay1 f1) (xBlk f0 1) (hBlk f2 1 0) (hBlk f3 1 0))
    (Gen.k0_pay16 (Gen.k0_pay15 (Gen.k0_pay1 f1) (xBlk f0 1)) (hBlk f2 1 1) (hBlk f3 1 1))
    (Gen.k0_pay17 (hBlk f3 1 2)) (Gen.k0_pay18 (q1 f0 f1) (hBlk f2 1 2)) (Gen.k0_pay19 (q1 f0 f1) (hBlk f2 1 2))
    (hBlk f2 1 3) (hBlk f3 1 3)

/-- Two halves of 128 rows, one above the other. -/
def stack (w0 w1 : Vec F S128x512 .bf16) : Vec F S256x512 .bf16 := fun i =>
  if h : (i 0).val < 128 then w0 (ix2 ⟨(i 0).val, h⟩ (i 1))
  else w1 (ix2 ⟨(i 0).val - 128, by have h' : (i 0).val < 256 := (i 0).isLt; omega⟩ (i 1))

/-- A device's partial product: the rows of both batch entries. -/
def partialOf : Vec F S256x512 .bf16 := stack (part0 f0 f1 f2 f3 f4) (part1 f0 f1 f2 f3 f4)

end Partial

/-! ## What a device reduces, and what all of them gather -/

section Reduced

variable (P : Dev nD → Vec F S256x512 .bf16)

/-- The slot of device `c`'s landing buffer that the device `k` places after it writes. -/
def slotK (c : Dev nD) (k : ℕ) : Vec F S1x16x512 .bf16 := slotBlk (landed P c) (pk c k)

def acc1 (c : Dev nD) : FVec F S16x512 .f32 := Gen.k0_pay21 (rowBlk (P c) c) (slotK P c 1)
def acc3 (c : Dev nD) : FVec F S16x512 .f32 := Gen.k0_pay22 (acc1 P c) (slotK P c 2) (slotK P c 3)
def acc6 (c : Dev nD) : FVec F S16x512 .f32 := Gen.k0_pay23 (acc3 P c) (slotK P c 4) (slotK P c 5) (slotK P c 6)
def acc8 (c : Dev nD) : FVec F S16x512 .f32 := Gen.k0_pay24 (acc6 P c) (slotK P c 7) (slotK P c 8)
def acc10 (c : Dev nD) : FVec F S16x512 .f32 := Gen.k0_pay25 (acc8 P c) (slotK P c 9) (slotK P c 10)
def acc12 (c : Dev nD) : FVec F S16x512 .f32 := Gen.k0_pay26 (acc10 P c) (slotK P c 11) (slotK P c 12)
/-- The rows device `c` reduces: its own and the fifteen that landed. -/
def reduced (c : Dev nD) : FVec F S16x512 .bf16 :=
  Gen.k0_pay28 (acc12 P c) (Gen.k0_pay27 (slotK P c 13)) (slotK P c 14) (slotK P c 15)

/-- What every device has gathered at the end: each device's reduced rows. -/
def gathered : Vec F S256x512 .bf16 := fun i =>
  Gen.k0_pay29 (reduced P ⟨(i 0).val / 16, by have h : (i 0).val < 256 := (i 0).isLt; show _ < 16; omega⟩)
    (ix2 ⟨(i 0).val % 16, Nat.mod_lt _ (by decide)⟩ (i 1))

/-- The rows of device `c` in what is gathered are those it reduced. -/
theorem gathered_atRow (c : Dev nD) (j : S16x512.Idx) : gathered P (atRow c j) = Gen.k0_pay29 (reduced P c) j := by
  have hj : (j 0).val < 16 := (j 0).isLt
  have hd : (16 * c.val + (j 0).val) / 16 = c.val := by omega
  have hm : (16 * c.val + (j 0).val) % 16 = (j 0).val := by omega
  unfold gathered
  have e1 : (⟨((atRow c j) 0).val / 16, by show (16 * c.val + (j 0).val) / 16 < 16; have := c.isLt; rw [hd]; exact this⟩ : Dev nD) = c := Fin.ext hd
  have e2 : (ix2 ⟨((atRow c j) 0).val % 16, Nat.mod_lt _ (by decide)⟩ ((atRow c j) 1) : S16x512.Idx) = j := by
    funext a
    match a with
    | 0 => exact Fin.ext hm
    | 1 => rfl
  rw [e2]
  exact congrArg (fun d => Gen.k0_pay29 (reduced P d) j) e1

end Reduced

/-! ## What loads read -/

theorem read_x (f : Vec F S2x128x512 .bf16) (b : Fin 2) (hb) :
    (Memref.whole cc0_stg0_0).view.readAt (Elt F) (Rect.unit (s := S2x128x512) ![b.val, 0, 0] S1x128x512.size hb).toLoadRect f = xBlk f b := by
  funext j
  refine congrArg f ?_
  funext a
  match a with
  | 0 => exact Fin.ext (by show b.val + 1 * (j 0).val = b.val; have h : (j 0).val < 1 := (j 0).isLt; omega)
  | 1 => exact Fin.ext (by show 0 + 1 * (j 1).val = (j 1).val; omega)
  | 2 => exact Fin.ext (by show 0 + 1 * (j 2).val = (j 2).val; omega)

theorem read_h (m : Memref sig .tc .vmem S2x4x128x64 .bf16) (f : m.view.ty.Contents (Elt F)) (g : Vec F S2x4x128x64 .bf16) (hm : m.view.read (Elt F) f = g)
    (b : Fin 2) (h : Fin 4) (hb) :
    m.view.readAt (Elt F) (Rect.unit (s := S2x4x128x64) ![b.val, h.val, 0, 0] S1x1x128x64.size hb).toLoadRect f = hBlk g b h := by
  funext j
  rw [View.readAt_apply, hm]
  refine congrArg g ?_
  funext a
  match a with
  | 0 => exact Fin.ext (by show b.val + 1 * (j 0).val = b.val; have h : (j 0).val < 1 := (j 0).isLt; omega)
  | 1 => exact Fin.ext (by show h.val + 1 * (j 1).val = h.val; have h : (j 1).val < 1 := (j 1).isLt; omega)
  | 2 => exact Fin.ext (by show 0 + 1 * (j 2).val = (j 2).val; omega)
  | 3 => exact Fin.ext (by show 0 + 1 * (j 3).val = (j 3).val; omega)

/-- A load of sixteen rows reads the block of the device they belong to. -/
theorem read_rows (m : Memref sig .tc .vmem S256x512 .bf16) (f : m.view.ty.Contents (Elt F)) (g : Vec F S256x512 .bf16) (hm : m.view.read (Elt F) f = g)
    {o : Fin 2 → Nat} (p : Fin 16) (ho : o = ![16 * p.val, 0]) (hb) :
    m.view.readAt (Elt F) (Rect.unit (s := S256x512) o S16x512.size hb).toLoadRect f = rowBlk g p := by
  subst ho
  funext j
  rw [View.readAt_apply, hm]
  refine congrArg g ?_
  funext a
  match a with
  | 0 => exact Fin.ext (by show 16 * p.val + 1 * (j 0).val = 16 * p.val + (j 0).val; omega)
  | 1 => exact Fin.ext (by show 0 + 1 * (j 1).val = (j 1).val; omega)

theorem read_slot (f : Vec F S16x16x512 .bf16) {o : Fin 3 → Nat} (p : Fin 16) (ho : o = ![p.val, 0, 0]) (hb) :
    r1M.view.readAt (Elt F) (Rect.unit (s := S16x16x512) o S1x16x512.size hb).toLoadRect f = slotBlk f p := by
  subst ho
  funext j
  refine congrArg f ?_
  funext a
  match a with
  | 0 => exact Fin.ext (by show p.val + 1 * (j 0).val = p.val; have h : (j 0).val < 1 := (j 0).isLt; omega)
  | 1 => exact Fin.ext (by show 0 + 1 * (j 1).val = (j 1).val; omega)
  | 2 => exact Fin.ext (by show 0 + 1 * (j 2).val = (j 2).val; omega)

/-! ## What stores leave -/

theorem half_inb (o : ℕ) (ho : o + 128 ≤ 256) : ∀ a, (![o, 0] : Fin 2 → Nat) a + S128x512.size a ≤ S256x512.size a :=
  Rect.inb₂ ho (by show 0 + 512 ≤ 512; omega)

theorem write_half (o : ℕ) (hb) (f : Vec F S256x512 .bf16) (w : Vec F S128x512 .bf16) (i : S256x512.Idx) (j : S128x512.Idx)
    (h0 : (i 0).val = o + (j 0).val) (h1 : (i 1).val = (j 1).val) :
    (sbM.access (Rect.unit (s := S256x512) ![o, 0] S128x512.size hb)).write (Elt F) f w Finset.univ i = w j := by
  have hi : i = (sbM.access (Rect.unit (s := S256x512) ![o, 0] S128x512.size hb)).emb j := by
    funext a
    match a with
    | 0 => exact Fin.ext (by show (i 0).val = o + 1 * (j 0).val; omega)
    | 1 => exact Fin.ext (by show (i 1).val = 0 + 1 * (j 1).val; omega)
  rw [hi]
  exact View.write_emb_of_mem (Val := Elt F) (v := sbM.access (Rect.unit (s := S256x512) ![o, 0] S128x512.size hb)) f w (Finset.mem_univ j)

theorem write_half_off (o : ℕ) (hb) (f : Vec F S256x512 .bf16) (w : Vec F S128x512 .bf16) (i : S256x512.Idx)
    (h : (i 0).val < o ∨ o + 128 ≤ (i 0).val) :
    (sbM.access (Rect.unit (s := S256x512) ![o, 0] S128x512.size hb)).write (Elt F) f w Finset.univ i = f i := by
  refine View.write_of_not_mem (Val := Elt F) (v := sbM.access (Rect.unit (s := S256x512) ![o, 0] S128x512.size hb)) f w Finset.univ ?_
  intro hm
  obtain ⟨j, -, hj⟩ := Finset.mem_map.mp hm
  have hv : (i 0).val = o + 1 * (j 0).val := by rw [← hj]; rfl
  have hlt : (j 0).val < 128 := (j 0).isLt
  omega

/-- The two stores of the compute phase leave one half above the other, whatever was there. -/
theorem two_halves (hb0) (hb1) (g : Vec F S256x512 .bf16) (w0 w1 : Vec F S128x512 .bf16) :
    (sbM.access (Rect.unit (s := S256x512) ![128, 0] S128x512.size hb1)).write (Elt F)
      ((sbM.access (Rect.unit (s := S256x512) ![0, 0] S128x512.size hb0)).write (Elt F) g w0 Finset.univ) w1 Finset.univ = stack w0 w1 := by
  funext i
  have hi : (i 0).val < 256 := (i 0).isLt
  unfold stack
  by_cases h : (i 0).val < 128
  · rw [dif_pos h, write_half_off 128 hb1 _ w1 i (.inl h)]
    exact write_half 0 hb0 g w0 i _ (by show _ = 0 + (i 0).val; omega) rfl
  · rw [dif_neg h]
    exact write_half 128 hb1 _ w1 i _ (by show _ = 128 + ((i 0).val - 128); omega) rfl

/-- The store of a device's own rows leaves there what is gathered. -/
theorem write_rows (P : Dev nD → Vec F S256x512 .bf16) (c : Dev nD) {o : Fin 2 → Nat} (ho : o = ![16 * c.val, 0]) (hb) (g : Vec F S256x512 .bf16) :
    (gbAt c c fullShare ((gbM.access (Rect.unit (s := S256x512) o S16x512.size hb)).write (Elt F) g (Gen.k0_pay29 (reduced P c)) Finset.univ) : sProp 𝕄)
      = gbAt c c fullShare (gathered P) := by
  subst ho
  refine pointsTo_congr ?_
  intro i hi
  obtain ⟨j, -, rfl⟩ := Finset.mem_map.mp hi
  rw [rows_emb_gb c j, gathered_atRow P c j, ← rows_emb_gb c j]
  exact View.write_emb_of_mem (Val := Elt F) (v := gbM.access (Rect.unit (s := S256x512) ![16 * c.val, 0] S16x512.size hb)) g _ (Finset.mem_univ j)

end Cert.Talk

end
-- ==== Proof.Loads.lean ====
/-
  The compute phase's loads and stores, one lemma per buffer, and the rule for a step followed by the rest of the text.
-/
module

public import proofs.«01_k».proof.Proof.Contents

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A step, then the rest. -/
theorem then_step {α β : Type} (c : Dev nD) {p : Prog (TpuEff nD τ sig (Elt F) Λ₀ .tc) α} {k : α → Prog (TpuEff nD τ sig (Elt F) Λ₀ .tc) β}
    {A : sProp 𝕄} {Q : β → sProp 𝕄} (h : A ⊢ WP c p (fun a => WP c (k a) Q)) : A ⊢ WP c (p >>= k) Q := by
  unfold WP; rw [wp_bind]; exact h

/-- Nothing left to run. -/
theorem done_step {α : Type} (c : Dev nD) {a : α} {A : sProp 𝕄} {Q : α → sProp 𝕄} (h : A ⊢ Q a) :
    A ⊢ WP c (pure a : Prog (TpuEff nD τ sig (Elt F) Λ₀ .tc) α) Q := by
  unfold WP; rw [wp_pure]
  refine h.trans ?_
  iintro H; imodintro; iexact H

/-- The device reads its own number. -/
theorem dev_step {β : Type} (c : Dev nD) {k : Dev nD → Prog (TpuEff nD τ sig (Elt F) Λ₀ .tc) β} {A : sProp 𝕄} {Q : β → sProp 𝕄}
    (h : A ⊢ WP c (k c) Q) : A ⊢ WP c (Prog.lift .deviceId >>= k) Q := by
  unfold WP
  rw [wp_bind]
  unfold Prog.lift
  rw [wp_deviceId, wp_ret]
  refine h.trans ?_
  iintro H; imodintro; iexact H

/-- Device `c` holds the whole buffer `b`, at contents `f`. -/
abbrev whole (c : Dev nD) (b : Ref sig .tc) (f : b.ty.Contents (Elt F)) : sProp 𝕄 := (c : Thread nD τ).loc b ↦{fullShare} f

/-- The staged inputs. -/
def wins (c : Dev nD) (f0 : Vec F S2x128x512 .bf16) (f1 : Vec F S512x256 .bf16) (f2 f3 : Vec F S2x4x128x64 .bf16) (f4 : Vec F S256x512 .bf16) : sProp 𝕄 :=
  iprop(whole c cc0_stg0_0 f0 ∗ whole c cc0_stg1_0 f1 ∗ whole c cc0_stg2_0 f2 ∗ whole c cc0_stg3_0 f3 ∗ whole c cc0_stg4_0 f4)

section

variable {f0 : Vec F S2x128x512 .bf16} {f1 : Vec F S512x256 .bf16} {f2 f3 : Vec F S2x4x128x64 .bf16} {f4 : Vec F S256x512 .bf16}

theorem load_x (c : Dev nD) (b : Fin 2) {hb} {hl} {R : sProp 𝕄} {Q : _ → sProp 𝕄}
    (hk : iprop(wins c f0 f1 f2 f3 f4 ∗ R) ⊢ Q (xBlk f0 b)) :
    iprop(wins c f0 f1 f2 f3 f4 ∗ R) ⊢ WP c (Prog.lift (.load (Memref.whole cc0_stg0_0) (Rect.unit (s := S2x128x512) ![b.val, 0, 0] S1x128x512.size hb).toLoadRect hl)) Q := by
  refine load_step (F := F) c (S := Finset.univ) (q := fullShare) (f := f0) (Finset.subset_univ _) ?_ (hk.trans (Entails.of_eq (congrArg Q (read_x f0 b hb).symm)))
  unfold wins
  iintro ⟨⟨H0, H1, H2, H3, H4⟩, HR⟩
  isplitl [H0]; · iexact H0
  iintro H0
  isplitr [HR]; · isplitl [H0]; · iexact H0
                  isplitl [H1]; · iexact H1
                  isplitl [H2]; · iexact H2
                  isplitl [H3]; · iexact H3
                  iexact H4
  iexact HR

theorem load_wq (c : Dev nD) {hb} {hl} {R : sProp 𝕄} {Q : _ → sProp 𝕄} (hk : iprop(wins c f0 f1 f2 f3 f4 ∗ R) ⊢ Q f1) :
    iprop(wins c f0 f1 f2 f3 f4 ∗ R) ⊢ WP c (Prog.lift (.load (Memref.whole cc0_stg1_0) (Rect.unit (s := S512x256) ![0, 0] S512x256.size hb).toLoadRect hl)) Q := by
  refine load_step (F := F) c (S := Finset.univ) (q := fullShare) (f := f1) (Finset.subset_univ _) ?_
    (hk.trans (Entails.of_eq (congrArg Q (Memref.readAt_unit_zero (Elt F) cc0_stg1_0 (by funext a; match a with | 0 => rfl | 1 => rfl) hb f1).symm)))
  unfold wins
  iintro ⟨⟨H0, H1, H2, H3, H4⟩, HR⟩
  isplitl [H1]; · iexact H1
  iintro H1
  isplitr [HR]; · isplitl [H0]; · iexact H0
                  isplitl [H1]; · iexact H1
                  isplitl [H2]; · iexact H2
                  isplitl [H3]; · iexact H3
                  iexact H4
  iexact HR

theorem load_wo (c : Dev nD) {hb} {hl} {R : sProp 𝕄} {Q : _ → sProp 𝕄} (hk : iprop(wins c f0 f1 f2 f3 f4 ∗ R) ⊢ Q f4) :
    iprop(wins c f0 f1 f2 f3 f4 ∗ R) ⊢ WP c (Prog.lift (.load (Memref.whole cc0_stg4_0) (Rect.unit (s := S256x512) ![0, 0] S256x512.size hb).toLoadRect hl)) Q := by
  refine load_step (F := F) c (S := Finset.univ) (q := fullShare) (f := f4) (Finset.subset_univ _) ?_
    (hk.trans (Entails.of_eq (congrArg Q (Memref.readAt_unit_zero (Elt F) cc0_stg4_0 (by funext a; match a with | 0 => rfl | 1 => rfl) hb f4).symm)))
  unfold wins
  iintro ⟨⟨H0, H1, H2, H3, H4⟩, HR⟩
  isplitl [H4]; · iexact H4
  iintro H4
  isplitr [HR]; · isplitl [H0]; · iexact H0
                  isplitl [H1]; · iexact H1
                  isplitl [H2]; · iexact H2
                  isplitl [H3]; · iexact H3
                  iexact H4
  iexact HR

theorem load_k (c : Dev nD) (b : Fin 2) (h : Fin 4) {hb} {hl} {R : sProp 𝕄} {Q : _ → sProp 𝕄}
    (hk : iprop(wins c f0 f1 f2 f3 f4 ∗ R) ⊢ Q (hBlk f2 b h)) :
    iprop(wins c f0 f1 f2 f3 f4 ∗ R) ⊢ WP c (Prog.lift (.load (Memref.whole cc0_stg2_0) (Rect.unit (s := S2x4x128x64) ![b.val, h.val, 0, 0] S1x1x128x64.size hb).toLoadRect hl)) Q := by
  refine load_step (F := F) c (S := Finset.univ) (q := fullShare) (f := f2) (Finset.subset_univ _) ?_
    (hk.trans (Entails.of_eq (congrArg Q (read_h (Memref.whole cc0_stg2_0) f2 f2 rfl b h hb).symm)))
  unfold wins
  iintro ⟨⟨H0, H1, H2, H3, H4⟩, HR⟩
  isplitl [H2]; · iexact H2
  iintro H2
  isplitr [HR]; · isplitl [H0]; · iexact H0
                  isplitl [H1]; · iexact H1
                  isplitl [H2]; · iexact H2
                  isplitl [H3]; · iexact H3
                  iexact H4
  iexact HR

theorem load_v (c : Dev nD) (b : Fin 2) (h : Fin 4) {hb} {hl} {R : sProp 𝕄} {Q : _ → sProp 𝕄}
    (hk : iprop(wins c f0 f1 f2 f3 f4 ∗ R) ⊢ Q (hBlk f3 b h)) :
    iprop(wins c f0 f1 f2 f3 f4 ∗ R) ⊢ WP c (Prog.lift (.load (Memref.whole cc0_stg3_0) (Rect.unit (s := S2x4x128x64) ![b.val, h.val, 0, 0] S1x1x128x64.size hb).toLoadRect hl)) Q := by
  refine load_step (F := F) c (S := Finset.univ) (q := fullShare) (f := f3) (Finset.subset_univ _) ?_
    (hk.trans (Entails.of_eq (congrArg Q (read_h (Memref.whole cc0_stg3_0) f3 f3 rfl b h hb).symm)))
  unfold wins
  iintro ⟨⟨H0, H1, H2, H3, H4⟩, HR⟩
  isplitl [H3]; · iexact H3
  iintro H3
  isplitr [HR]; · isplitl [H0]; · iexact H0
                  isplitl [H1]; · iexact H1
                  isplitl [H2]; · iexact H2
                  isplitl [H3]; · iexact H3
                  iexact H4
  iexact HR

end

/-- A load of any part of the send buffer, held whole beside `A`. -/
theorem load_sb (c : Dev nD) {g : Vec F S256x512 .bf16} {A R : sProp 𝕄} {r : LoadRect S256x512} {hl} {Q : _ → sProp 𝕄}
    (hk : iprop(A ∗ whole c cc0_scratch0 g ∗ R) ⊢ Q (sbM.view.readAt (Elt F) r g)) :
    iprop(A ∗ whole c cc0_scratch0 g ∗ R) ⊢ WP c (Prog.lift (.load sbM r hl)) Q := by
  refine load_step (F := F) c (S := Finset.univ) (q := fullShare) (f := g) (Finset.subset_univ _) ?_ hk
  iintro ⟨HA, Hs, HR⟩
  isplitl [Hs]; · iexact Hs
  iintro Hs
  isplitl [HA]; · iexact HA
  isplitl [Hs]; · iexact Hs
  iexact HR

/-- A store into the send buffer, held whole beside `A`. -/
theorem store_sb (c : Dev nD) {g : Vec F S256x512 .bf16} {A R : sProp 𝕄} {r : Rect S256x512} {w : r.shape.Idx → Elt F .bf16} {hx} {hm} {Q : PUnit → sProp 𝕄}
    (hk : iprop(A ∗ whole c cc0_scratch0 ((sbM.access r).write (Elt F) g w Finset.univ) ∗ R) ⊢ Q ⟨⟩) :
    iprop(A ∗ whole c cc0_scratch0 g ∗ R) ⊢ WP c (Prog.lift (.store sbM r w Finset.univ hx hm)) Q := by
  refine store_step (F := F) c (S := Finset.univ) (f := g) (Finset.subset_univ _) ?_ hk
  iintro ⟨HA, Hs, HR⟩
  isplitl [Hs]; · iexact Hs
  iintro Hs
  isplitl [HA]; · iexact HA
  isplitl [Hs]; · iexact Hs
  iexact HR

end Cert.Talk

end
-- ==== Proof.Parts1.lean ====
/-
  The first part of the kernel: it signals every other device, waits for all of them, and computes its partial product.
-/
module

public import proofs.«01_k».proof.Proof.Loads

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The first five signals. -/
theorem piece1 (P : Dev nD → Vec F S256x512 .bf16) (G : Vec F S256x512 .bf16) (K : GSem nD τ sig → ℕ) (c : Dev nD) {Fr : sProp 𝕄}
    {h0} {h1} {h2} {h3} {h4} {h5} {h6} {h7} {h8}
    {Q : _ → sProp 𝕄} (hk : ∀ w w', iprop(ctx P G K ∗ phA c 6 ∗ Fr) ⊢ Q ⟨c, w, (SemArray.scalar (sig.barrier 0 rfl)), w', 16#32⟩) :
    iprop(ctx P G K ∗ phA c 1 ∗ Fr)
      ⊢ WP c (k0_part1 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6) Q := by
  rw [Gen.k0_part1_eq_skeleton]; unfold Gen.k0_part1_skel; dsimp only
  refine dev_step c ?_
  refine then_step c (signal_step P G K c 1 (by decide) (by decide) (Fin.ext (Gen.k0_dev1_eq c)) rfl ?_)
  refine then_step c (signal_step P G K c 2 (by decide) (by decide) (Fin.ext (Gen.k0_dev2_eq c)) rfl ?_)
  refine then_step c (signal_step P G K c 3 (by decide) (by decide) (Fin.ext (Gen.k0_dev3_eq c)) rfl ?_)
  refine then_step c (signal_step P G K c 4 (by decide) (by decide) (Fin.ext (Gen.k0_dev4_eq c)) rfl ?_)
  refine then_step c (signal_step P G K c 5 (by decide) (by decide) (Fin.ext (Gen.k0_dev5_eq c)) rfl ?_)
  exact done_step c (hk _ _)

/-- The next six. -/
theorem piece2 (P : Dev nD → Vec F S256x512 .bf16) (G : Vec F S256x512 .bf16) (K : GSem nD τ sig → ℕ) (c : Dev nD) {Fr : sProp 𝕄} {w2 w24 w20 : BitVec 32}
    {h0} {h1} {h2} {h3} {h4} {h5} {h6} {h7} {h8}
    {Q : _ → sProp 𝕄} (hk : ∀ w, iprop(ctx P G K ∗ phA c 12 ∗ Fr) ⊢ Q ⟨w, 16#32⟩) :
    iprop(ctx P G K ∗ phA c 6 ∗ Fr)
      ⊢ WP c (k0_part2 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (SemArray.scalar (sig.barrier 0 rfl)) w24 w20) Q := by
  rw [Gen.k0_part2_eq_skeleton]; unfold Gen.k0_part2_skel; dsimp only
  refine then_step c (signal_step P G K c 6 (by decide) (by decide) (Fin.ext (Gen.k0_dev6_eq c)) rfl ?_)
  refine then_step c (signal_step P G K c 7 (by decide) (by decide) (Fin.ext (Gen.k0_dev7_eq c)) rfl ?_)
  refine then_step c (signal_step P G K c 8 (by decide) (by decide) (Fin.ext (Gen.k0_dev8_eq c)) rfl ?_)
  refine then_step c (signal_step P G K c 9 (by decide) (by decide) (Fin.ext (Gen.k0_dev9_eq c)) rfl ?_)
  refine then_step c (signal_step P G K c 10 (by decide) (by decide) (Fin.ext (Gen.k0_dev10_eq c)) rfl ?_)
  refine then_step c (signal_step P G K c 11 (by decide) (by decide) (Fin.ext (Gen.k0_dev11_eq c)) rfl ?_)
  exact done_step c (hk _)

/-- The claim on the barrier, beside what the signals leave. -/
theorem bar_arrange (P : Dev nD → Vec F S256x512 .bf16) (G : Vec F S256x512 .bf16) (K : GSem nD τ sig → ℕ) (c : Dev nD) {A R : sProp 𝕄} :
    iprop(ctx P G K ∗ phA c 16 ∗ (cred (tallyAt (barCell c) () 15) ∗ atPos ER (barCell c) 0 ∅ 0) ∗ A ∗ R)
      ⊢ iprop(ctx P G K ∗ (phA c 16 ∗ cred (tallyAt (barCell c) () 15) ∗ atPos ER (barCell c) 0 ∅ 0) ∗ (A ∗ R)) := by
  iintro ⟨Hc, HA, ⟨H1, H2⟩, HR⟩
  isplitl [Hc]; · iexact Hc
  isplitr [HR]
  · isplitl [HA]; · iexact HA
    isplitl [H1]; · iexact H1
    iexact H2
  iexact HR

/-- The staged inputs brought to the front. -/
theorem bar_after (P : Dev nD → Vec F S256x512 .bf16) (G : Vec F S256x512 .bf16) (K : GSem nD τ sig → ℕ) (c : Dev nD) {A B R : sProp 𝕄} :
    iprop(ctx P G K ∗ B ∗ (A ∗ R)) ⊢ iprop(A ∗ ctx P G K ∗ B ∗ R) := by
  iintro ⟨Hc, HB, HA, HR⟩
  isplitl [HA]; · iexact HA
  isplitl [Hc]; · iexact Hc
  isplitl [HB]; · iexact HB
  iexact HR

/-- The last four signals, the wait for all the others, and the first loads. -/
theorem piece3 (P : Dev nD → Vec F S256x512 .bf16) (G : Vec F S256x512 .bf16) (K : GSem nD τ sig → ℕ) (c : Dev nD) {f0 : Vec F S2x128x512 .bf16} {f1 : Vec F S512x256 .bf16} {f2 f3 : Vec F S2x4x128x64 .bf16} {f4 : Vec F S256x512 .bf16} {Fr : sProp 𝕄} {w2 w48 w44 : BitVec 32}
    {h0} {h1} {h2} {h3} {h4} {h5} {h6} {h7} {h8}
    {Q : _ → sProp 𝕄} (hk : iprop(wins c f0 f1 f2 f3 f4 ∗ ctx P G K ∗ (bigSep (Finset.Ico 1 16) (fun k => barPay (F := F) c (pk c k)) ∗ ow c (ow3 c 1 + ow1 c 1) ∗ atPos ER (barCell c) 1 ∅ 0) ∗ Fr) ⊢ Q ⟨Gen.k0_pay1 f1, Gen.k0_pay2 f4, q0 f0 f1, Gen.k0_pay4 f1 (xBlk f0 0)⟩) :
    iprop(ctx P G K ∗ phA c 12 ∗ (cred (tallyAt (barCell c) () 15) ∗ atPos ER (barCell c) 0 ∅ 0) ∗ wins c f0 f1 f2 f3 f4 ∗ Fr)
      ⊢ WP c (k0_part3 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (SemArray.scalar (sig.barrier 0 rfl)) w48 w44) Q := by
  rw [Gen.k0_part3_eq_skeleton]; unfold Gen.k0_part3_skel; dsimp only
  refine then_step c (signal_step P G K c 12 (by decide) (by decide) (Fin.ext (Gen.k0_dev12_eq c)) rfl ?_)
  refine then_step c (signal_step P G K c 13 (by decide) (by decide) (Fin.ext (Gen.k0_dev13_eq c)) rfl ?_)
  refine then_step c (signal_step P G K c 14 (by decide) (by decide) (Fin.ext (Gen.k0_dev14_eq c)) rfl ?_)
  refine then_step c (signal_step P G K c 15 (by decide) (by decide) (Fin.ext (Gen.k0_dev15_eq c)) rfl ?_)
  refine then_step c ((bar_arrange P G K c).trans (bar_step P G K c rfl ?_))
  refine (bar_after P G K c).trans ?_
  refine then_step c (load_wq c ?_)
  refine then_step c (load_wo c ?_)
  refine then_step c (load_x c 0 ?_)
  exact done_step c hk

/-- Heads zero and one of the first batch entry. -/
theorem piece4 (c : Dev nD) {f0 : Vec F S2x128x512 .bf16} {f1 : Vec F S512x256 .bf16} {f2 f3 : Vec F S2x4x128x64 .bf16} {f4 : Vec F S256x512 .bf16} {R : sProp 𝕄} {v70 : FVec F S128x256 .f32} {v72 : FVec F S128x64 .bf16}
    {h0} {h1} {h2} {h3} {h4} {h5} {h6} {h7} {h8}
    {Q : _ → sProp 𝕄} (hk : iprop(wins c f0 f1 f2 f3 f4 ∗ R) ⊢ Q ⟨Gen.k0_pay5 v72 (hBlk f2 0 0) (hBlk f3 0 0), Gen.k0_pay6 (hBlk f3 0 1), Gen.k0_pay7 v70 (hBlk f2 0 1), constant S128x64 .f32 0x00000000#32⟩) :
    iprop(wins c f0 f1 f2 f3 f4 ∗ R)
      ⊢ WP c (k0_part4 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 v70 v72) Q := by
  rw [Gen.k0_part4_eq_skeleton]; unfold Gen.k0_part4_skel; dsimp only
  refine then_step c (load_k c 0 0 ?_)
  refine then_step c (load_v c 0 0 ?_)
  refine then_step c (load_k c 0 1 ?_)
  refine then_step c (load_v c 0 1 ?_)
  exact done_step c hk

/-- Heads one to three of the first batch entry. -/
theorem piece5 (c : Dev nD) {f0 : Vec F S2x128x512 .bf16} {f1 : Vec F S512x256 .bf16} {f2 f3 : Vec F S2x4x128x64 .bf16} {f4 : Vec F S256x512 .bf16} {R : sProp 𝕄} {v70 : FVec F S128x256 .f32} {v96 : FVec F S128x64 .bf16} {v109 : FVec F S128x128 .bf16} {z : FVec F S128x64 .f32}
    {h0} {h1} {h2} {h3} {h4} {h5} {h6} {h7} {h8}
    {Q : _ → sProp 𝕄} (hk : iprop(wins c f0 f1 f2 f3 f4 ∗ R) ⊢ Q ⟨Gen.k0_pay8 v96 v109 z, Gen.k0_pay9 v70 (hBlk f2 0 2) (hBlk f3 0 2), Gen.k0_pay10 (hBlk f3 0 3), Gen.k0_pay11 v70 (hBlk f2 0 3)⟩) :
    iprop(wins c f0 f1 f2 f3 f4 ∗ R)
      ⊢ WP c (k0_part5 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 v70 v96 v109 z) Q := by
  rw [Gen.k0_part5_eq_skeleton]; unfold Gen.k0_part5_skel; dsimp only
  refine then_step c (load_k c 0 2 ?_)
  refine then_step c (load_v c 0 2 ?_)
  refine then_step c (load_k c 0 3 ?_)
  refine then_step c (load_v c 0 3 ?_)
  exact done_step c hk

/-- The rows of the first batch entry are stored; head zero of the second. -/
theorem piece6 (c : Dev nD) {f0 : Vec F S2x128x512 .bf16} {f1 : Vec F S512x256 .bf16} {f2 f3 : Vec F S2x4x128x64 .bf16} {f4 : Vec F S256x512 .bf16} {g : Vec F S256x512 .bf16} {R : sProp 𝕄} {v65 : FVec F S512x256 .bf16} {v67 : FVec F S256x512 .bf16} {v90 v110 v130 : FVec F S128x64 .f32} {v136 : FVec F S128x64 .bf16} {v144 : FVec F S128x128 .f32}
    {h0} {h1} {h2} {h3} {h4} {h5} {h6} {h7} {h8}
    {Q : _ → sProp 𝕄} (hk : iprop(wins c f0 f1 f2 f3 f4 ∗ whole c cc0_scratch0 ((sbM.access (Rect.unit (s := S256x512) ![0, 0] S128x512.size Gen.inb_S256x512_S128x512_0_0)).write (Elt F) g (Gen.k0_pay12 v67 v90 v110 v130 v136 v144) Finset.univ) ∗ R) ⊢ Q ⟨Gen.k0_pay13 v65 (xBlk f0 1), Gen.k0_pay14 v65 (xBlk f0 1) (hBlk f2 1 0) (hBlk f3 1 0), Gen.k0_pay15 v65 (xBlk f0 1)⟩) :
    iprop(wins c f0 f1 f2 f3 f4 ∗ whole c cc0_scratch0 g ∗ R)
      ⊢ WP c (k0_part6 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 v65 v67 v90 v110 v130 v136 v144) Q := by
  rw [Gen.k0_part6_eq_skeleton]; unfold Gen.k0_part6_skel; dsimp only
  refine then_step c (load_sb c ?_)
  refine then_step c (store_sb c ?_)
  refine then_step c (load_x c 1 ?_)
  refine then_step c (load_k c 1 0 ?_)
  refine then_step c (load_v c 1 0 ?_)
  exact done_step c hk

/-- Heads one and two of the second batch entry. -/
theorem piece7 (c : Dev nD) {f0 : Vec F S2x128x512 .bf16} {f1 : Vec F S512x256 .bf16} {f2 f3 : Vec F S2x4x128x64 .bf16} {f4 : Vec F S256x512 .bf16} {R : sProp 𝕄} {v160 : FVec F S128x256 .f32} {v182 : FVec F S128x64 .bf16}
    {h0} {h1} {h2} {h3} {h4} {h5} {h6} {h7} {h8}
    {Q : _ → sProp 𝕄} (hk : iprop(wins c f0 f1 f2 f3 f4 ∗ R) ⊢ Q ⟨Gen.k0_pay16 v182 (hBlk f2 1 1) (hBlk f3 1 1), Gen.k0_pay17 (hBlk f3 1 2), Gen.k0_pay18 v160 (hBlk f2 1 2), Gen.k0_pay19 v160 (hBlk f2 1 2)⟩) :
    iprop(wins c f0 f1 f2 f3 f4 ∗ R)
      ⊢ WP c (k0_part7 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 v160 v182) Q := by
  rw [Gen.k0_part7_eq_skeleton]; unfold Gen.k0_part7_skel; dsimp only
  refine then_step c (load_k c 1 1 ?_)
  refine then_step c (load_v c 1 1 ?_)
  refine then_step c (load_k c 1 2 ?_)
  refine then_step c (load_v c 1 2 ?_)
  exact done_step c hk

/-- Head three of the second batch entry, and its rows are stored. -/
theorem piece8 (c : Dev nD) {f0 : Vec F S2x128x512 .bf16} {f1 : Vec F S512x256 .bf16} {f2 f3 : Vec F S2x4x128x64 .bf16} {f4 : Vec F S256x512 .bf16} {g : Vec F S256x512 .bf16} {R : sProp 𝕄} {w2 : BitVec 32} {v67 : FVec F S256x512 .bf16} {v160 : FVec F S128x256 .f32} {v180 v200 : FVec F S128x64 .f32} {v206 : FVec F S128x64 .bf16} {v214 v217 : FVec F S128x128 .f32}
    {h0} {h1} {h2} {h3} {h4} {h5} {h6} {h7} {h8}
    {Q : _ → sProp 𝕄} (hk : iprop(wins c f0 f1 f2 f3 f4 ∗ whole c cc0_scratch0 ((sbM.access (Rect.unit (s := S256x512) ![128, 0] S128x512.size Gen.inb_S256x512_S128x512_128_0)).write (Elt F) g (Gen.k0_pay20 v67 v160 v180 v200 v206 v214 v217 (hBlk f2 1 3) (hBlk f3 1 3)) Finset.univ) ∗ R) ⊢ Q ⟨⟩) :
    iprop(wins c f0 f1 f2 f3 f4 ∗ whole c cc0_scratch0 g ∗ R)
      ⊢ WP c (k0_part8 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 w2 v67 v160 v180 v200 v206 v214 v217) Q := by
  rw [Gen.k0_part8_eq_skeleton]; unfold Gen.k0_part8_skel; dsimp only
  refine then_step c (load_k c 1 3 ?_)
  refine then_step c (load_v c 1 3 ?_)
  refine then_step c (load_sb c ?_)
  refine then_step c (store_sb c ?_)
  exact done_step c hk

end Cert.Talk

end
-- ==== Proof.Parts2.lean ====
/-
  The second part of the kernel: fifteen copies of partial rows out, fifteen in, and their sum.
-/
module

public import proofs.«01_k».proof.Proof.Parts1

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What a transfer into a piece of sixteen rows adds to its cell, whichever buffer the piece is in. -/
def credit (m : Memref sig .tc .vmem S16x512 .bf16) : ℕ := m.view.dmaCredit
theorem N_slot (p : Fin 16) : credit (slotM p) = N := rfl
theorem N_sb {o : Fin 2 → Nat} (p : Fin 16) (ho : o = ![16 * p.val, 0]) (hb) (hu) :
    (sbM.slice (Rect.unit (s := S256x512) o S16x512.size hb) hu).view.dmaCredit = N := by
  subst ho; rfl
theorem N_gb {o : Fin 2 → Nat} (p : Fin 16) (ho : o = ![16 * p.val, 0]) (hb) (hu) :
    (gbM.slice (Rect.unit (s := S256x512) o S16x512.size hb) hu).view.dmaCredit = N := by
  subst ho; rfl

/-- The claims on fifteen cells of array `a`, one per step. -/
def creds (c : Dev nD) (a : Fin 4) (idx : ℕ → Fin 16) : sProp 𝕄 := bigSep (Finset.Ico 1 16) fun k => cred (tallyAt (dCell c a (idx k)) () N)
/-- The positions of those cells before their round. -/
def ats (c : Dev nD) (a : Fin 4) (idx : ℕ → Fin 16) : sProp 𝕄 := bigSep (Finset.Ico 1 16) fun k => atPos ER (dCell c a (idx k)) 0 ∅ 0
/-- What those cells handed over, and their positions after their round. -/
def got (P : Dev nD → Vec F S256x512 .bf16) (G : Vec F S256x512 .bf16) (c : Dev nD) (a : Fin 4) (idx : ℕ → Fin 16) : sProp 𝕄 :=
  bigSep (Finset.Ico 1 16) fun k => iprop(dmaPay P G c a.val (idx k).val ∗ atPos ER (dCell c a (idx k)) 1 ∅ 0)

section

variable (P : Dev nD → Vec F S256x512 .bf16) (G : Vec F S256x512 .bf16) (K : GSem nD τ sig → ℕ) (c : Dev nD)

/-- Claims, positions and dues are what the waits on an array start from. -/
theorem waits_start (a : Fin 4) (idx : ℕ → Fin 16) (O : CellTallies nD τ sig Unit) :
    iprop(ow c O ∗ creds c a idx ∗ ats c a idx) ⊢ phW (F := F) P G c a idx O 1 := by
  unfold phW creds ats
  rw [Finset.Ico_self, bigSep_empty, show (bigSep (Finset.Ico 1 16) fun k => iprop(cred (tallyAt (dCell c a (idx k)) () N) ∗ atPos ER (dCell c a (idx k)) 0 ∅ 0) : sProp 𝕄)
    = iprop((bigSep (Finset.Ico 1 16) fun k => cred (tallyAt (dCell c a (idx k)) () N)) ∗ bigSep (Finset.Ico 1 16) fun k => atPos ER (dCell c a (idx k)) 0 ∅ 0) from BI.bigSep_sep _ _ _]
  iintro ⟨HO, Hc, Ha⟩
  isplitr [HO]
  · isplitl [Hc]; · iexact Hc
    iexact Ha
  isplitl; · iexact HO
  iempintro

/-- After the waits: the dues, and what the cells handed over. -/
theorem waits_end (a : Fin 4) (idx : ℕ → Fin 16) (O : CellTallies nD τ sig Unit) :
    phW (F := F) P G c a idx O 16 ⊢ iprop(ow c O ∗ got P G c a idx) := by
  unfold phW got
  iintro ⟨-, HO, Hg⟩
  isplitl [HO]; · iexact HO
  iexact Hg

/-- After the copies of the first exchange, and the load of the device's own rows, come the waits for the others'. -/
theorem sends1_end {A Fr : sProp 𝕄} :
    iprop(ctx P G K ∗ phB P c 16 ∗ (A ∗ (creds c 1 (pk c) ∗ ats c 1 (pk c)) ∗ Fr))
      ⊢ iprop(ctx P G K ∗ phW P G c 1 (pk c) (ow3 c 1) 1 ∗ (A ∗ creds c 0 kf ∗ Fr)) := by
  unfold phB
  rw [ow1_end, add_zero]
  iintro ⟨Hc, ⟨-, HO, H0⟩, HA, ⟨H1, H2⟩, HF⟩
  isplitl [Hc]; · iexact Hc
  isplitl [HO H1 H2]
  · iapply (waits_start P G c 1 (pk c) (ow3 c 1))
    isplitl [HO]; · iexact HO
    isplitl [H1]; · iexact H1
    iexact H2
  isplitl [HA]; · iexact HA
  isplitl [H0]; · unfold creds; iexact H0
  iexact HF

/-- After the waits on one array, those on the next. -/
theorem waits_next (a a' : Fin 4) (idx idx' : ℕ → Fin 16) (O : CellTallies nD τ sig Unit) {Fr : sProp 𝕄} :
    iprop(ctx P G K ∗ phW P G c a idx O 16 ∗ ((creds c a' idx' ∗ ats c a' idx') ∗ Fr))
      ⊢ iprop(ctx P G K ∗ phW P G c a' idx' O 1 ∗ (got P G c a idx ∗ Fr)) := by
  iintro ⟨Hc, HW, ⟨H1, H2⟩, HF⟩
  ihave HW := (waits_end P G c a idx O) $$ HW
  icases HW with ⟨HO, Hg⟩
  isplitl [Hc]; · iexact Hc
  isplitl [HO H1 H2]
  · iapply (waits_start P G c a' idx' O)
    isplitl [HO]; · iexact HO
    isplitl [H1]; · iexact H1
    iexact H2
  isplitl [Hg]; · iexact Hg
  iexact HF

/-- After the copies of the second exchange come the waits for the others'. -/
theorem sends2_end {Fr : sProp 𝕄} :
    iprop(ctx P G K ∗ phD G c 16 ∗ ((creds c 3 (pk c) ∗ ats c 3 (pk c)) ∗ Fr))
      ⊢ iprop(ctx P G K ∗ phW P G c 3 (pk c) 0 1 ∗ (creds c 2 kf ∗ Fr)) := by
  unfold phD
  rw [ow3_end]
  iintro ⟨Hc, ⟨-, HO, H0⟩, ⟨H1, H2⟩, HF⟩
  isplitl [Hc]; · iexact Hc
  isplitl [HO H1 H2]
  · iapply (waits_start P G c 3 (pk c) 0)
    isplitl [HO]; · iexact HO
    isplitl [H1]; · iexact H1
    iexact H2
  isplitl [H0]; · unfold creds; iexact H0
  iexact HF

/-- The load of the device's own partial rows. -/
theorem load_own {A B Fr : sProp 𝕄} {o : Fin 2 → Nat} (ho : o = ![16 * c.val, 0]) {hb} {hl} {Q : _ → sProp 𝕄}
    (hk : iprop(A ∗ B ∗ (sbAt c c (P c) ∗ Fr)) ⊢ Q (rowBlk (P c) c)) :
    iprop(A ∗ B ∗ (sbAt c c (P c) ∗ Fr)) ⊢ WP c (Prog.lift (.load sbM (Rect.unit (s := S256x512) o S16x512.size hb).toLoadRect hl)) Q := by
  refine load_step (F := F) c (m := sbM) (S := (rowsM sbM c).view.set) (q := fullShare) (f := P c) ?_ ?_
    (hk.trans (Entails.of_eq (congrArg Q (read_rows sbM (P c) (P c) rfl c ho hb).symm)))
  · subst ho
    rw [sb_set]; unfold rowsR
    rw [show sbM.view.setOn (Rect.unit (s := S256x512) ![16 * c.val, 0] S16x512.size hb).toLoadRect.set
      = (Rect.unit (s := S256x512) ![16 * c.val, 0] S16x512.size (rows_inb c)).set from Finset.map_refl]
  iintro ⟨HA, HB, Hs, HR⟩
  isplitl [Hs]; · iexact Hs
  iintro Hs
  isplitl [HA]; · iexact HA
  isplitl [HB]; · iexact HB
  isplitl [Hs]; · iexact Hs
  iexact HR

/-- The load of the slot the last wait handed over. -/
theorem load_slot (k : ℕ) (h1 : 1 ≤ k) {O : CellTallies nD τ sig Unit} {Fr : sProp 𝕄} {o : Fin 3 → Nat} (ho : o = ![(pk c k).val, 0, 0]) {hb} {hl} {Q : _ → sProp 𝕄}
    (hk : iprop(ctx P G K ∗ phW P G c 1 (pk c) O (k + 1) ∗ Fr) ⊢ Q (slotK P c k)) :
    iprop(ctx P G K ∗ phW P G c 1 (pk c) O (k + 1) ∗ Fr) ⊢ WP c (Prog.lift (.load r1M (Rect.unit (s := S16x16x512) o S1x16x512.size hb).toLoadRect hl)) Q := by
  refine load_step (F := F) c (m := r1M) (S := (slotM (pk c k)).view.set) (q := fullShare) (f := landed P c) ?_ ?_
    (hk.trans (Entails.of_eq (congrArg Q (show slotK P c k = _ from (read_slot (landed P c) (pk c k) ho hb).symm))))
  · subst ho
    rw [slot_set]; unfold slotR
    rw [show r1M.view.setOn (Rect.unit (s := S16x16x512) ![(pk c k).val, 0, 0] S1x16x512.size hb).toLoadRect.set
      = (Rect.unit (s := S16x16x512) ![(pk c k).val, 0, 0] S1x16x512.size (slot_inb (pk c k))).set from Finset.map_refl]
  unfold phW
  rw [steps_put h1]
  rw [show dmaPay P G c (1 : Fin 4).val (pk c k).val = slotAt c (pk c k) (landed P c) from dmaPay1 P G c (pk c k)]
  iintro ⟨HA, ⟨H1, H2, ⟨Hs, H3⟩, H4⟩, HR⟩
  isplitl [Hs]; · iexact Hs
  iintro Hs
  isplitl [HA]; · iexact HA
  isplitr [HR]
  · isplitl [H1]; · iexact H1
    isplitl [H2]; · iexact H2
    isplitr [H4]
    · isplitl [Hs]; · iexact Hs
      iexact H3
    iexact H4
  iexact HR

/-- The copy of step `1 + r` of the first exchange, in the words the kernel uses for it. -/
theorem send1 (r : Fin 15) {d : Dev nD} (hd : d = pk c (1 + r.val)) {ho} {hu} {ho2} {hu2} {o : Fin 1 → Nat} (hsm : o = ![(kf (1 + r.val)).val]) {hs1} {hs2}
    {hws} {hwd} {hrt : _} {Fr : sProp 𝕄} {Q : PUnit → sProp 𝕄}
    (hk : iprop(ctx P G K ∗ phB P c (1 + r.val + 1) ∗ Fr) ⊢ Q ⟨⟩) :
    iprop(ctx P G K ∗ phB P c (1 + r.val) ∗ Fr) ⊢ WP c (Prog.lift (.enqueueDma
      (sbM.slice (Rect.unit (s := S256x512) (k0_off3 c (BitVec.ofNat 32 (1 + r.val))) S16x512.size ho) hu)
      (.remote (Dev.tc d) ((r1M.slice (Rect.unit (s := S16x16x512) (k0_off2 c) S1x16x512.size ho2) hu2).squeeze S16x512 squeezes_S1x16x512_S16x512)
        (.dma ((cc0_scratch3.slice (Rect.unit (s := S16) o S1.size hs1)).squeeze S_ squeezes_S1_S_).sem))
      (.dma ((cc0_scratch4.slice (Rect.unit (s := S16) (k0_off1 c) S1.size hs2)).squeeze S_ squeezes_S1_S_).sem) hws hwd hrt)) Q :=
  send1_step P G K c (1 + r.val) (by omega) (by omega) hd (rows_of _ _ (off3 c r) _ _) (slot_of c (Gen.k0_off2_eq c) _ _)
    (sem_of0 _ hsm _) (sem_of1 c (Gen.k0_off1_eq c) _) hk

/-- The wait of step `1 + r` for the other devices' rows. -/
theorem recv1 (r : Fin 15) {ho} {hu} {src : Memref sig .tc .vmem S16x512 .bf16} {hs} {hws} {hwd} {Fr : sProp 𝕄} {Q : PUnit → sProp 𝕄}
    (hk : iprop(ctx P G K ∗ phW P G c 1 (pk c) (ow3 c 1) (1 + r.val + 1) ∗ Fr) ⊢ Q ⟨⟩) :
    iprop(ctx P G K ∗ phW P G c 1 (pk c) (ow3 c 1) (1 + r.val) ∗ Fr) ⊢ WP c (Prog.lift (.waitDma2
      ((cc0_scratch4.slice (Rect.unit (s := S16) (k0_off5 c (BitVec.ofNat 32 (1 + r.val))) S1.size hs)).squeeze S_ squeezes_S1_S_).sem src
      ((r1M.slice (Rect.unit (s := S16x16x512) (k0_off6 c (BitVec.ofNat 32 (1 + r.val))) S1x16x512.size ho) hu).squeeze S16x512 squeezes_S1x16x512_S16x512) hws hwd)) Q :=
  wait_step P G K c 1 (pk c) (ow3 c 1) (1 + r.val) (by omega) (by omega) (used1 c _ (pk_ne c (by omega) (by omega))) (may_recv1 c _)
    (sem_of1 _ (off5 c r) _) ((congrArg credit (slot_of _ (off6 c r) ho hu)).trans (N_slot _)) hk

/-- The wait of step `1 + r` of the second exchange for the other devices' rows. -/
theorem recv2 (r : Fin 15) {src dst : Memref sig .tc .vmem S16x512 .bf16} (hN : dst.view.dmaCredit = N) {hs} {hws} {hwd} {Fr : sProp 𝕄} {Q : PUnit → sProp 𝕄}
    (hk : iprop(ctx P G K ∗ phW P G c 3 (pk c) 0 (1 + r.val + 1) ∗ Fr) ⊢ Q ⟨⟩) :
    iprop(ctx P G K ∗ phW P G c 3 (pk c) 0 (1 + r.val) ∗ Fr) ⊢ WP c (Prog.lift (.waitDma2
      ((cc0_scratch6.slice (Rect.unit (s := S16) (k0_off5 c (BitVec.ofNat 32 (1 + r.val))) S1.size hs)).squeeze S_ squeezes_S1_S_).sem src dst hws hwd)) Q :=
  wait_step P G K c 3 (pk c) 0 (1 + r.val) (by omega) (by omega) (used3 c _ (pk_ne c (by omega) (by omega))) (may_free c _)
    (sem_of3 _ (off5 c r) _) hN hk

/-- The wait of step `1 + r` for a copy of the first exchange to have left; -/
theorem sent1 (r : Fin 15) {src dst : Memref sig .tc .vmem S16x512 .bf16} (hN : dst.view.dmaCredit = N) {o : Fin 1 → Nat} (hsm : o = ![(kf (1 + r.val)).val]) {hs} {hws} {hwd} {Fr : sProp 𝕄} {Q : PUnit → sProp 𝕄}
    (hk : iprop(ctx P G K ∗ phW P G c 0 kf 0 (1 + r.val + 1) ∗ Fr) ⊢ Q ⟨⟩) :
    iprop(ctx P G K ∗ phW P G c 0 kf 0 (1 + r.val) ∗ Fr) ⊢ WP c (Prog.lift (.waitDma2
      ((cc0_scratch3.slice (Rect.unit (s := S16) o S1.size hs)).squeeze S_ squeezes_S1_S_).sem src dst hws hwd)) Q :=
  wait_step P G K c 0 kf 0 (1 + r.val) (by omega) (by omega) (used0 c (by omega) (by omega)) (may_free c _) (sem_of0 _ hsm _) hN hk

/-- of the second. -/
theorem sent2 (r : Fin 15) {src dst : Memref sig .tc .vmem S16x512 .bf16} (hN : dst.view.dmaCredit = N) {o : Fin 1 → Nat} (hsm : o = ![(kf (1 + r.val)).val]) {hs} {hws} {hwd} {Fr : sProp 𝕄} {Q : PUnit → sProp 𝕄}
    (hk : iprop(ctx P G K ∗ phW P G c 2 kf 0 (1 + r.val + 1) ∗ Fr) ⊢ Q ⟨⟩) :
    iprop(ctx P G K ∗ phW P G c 2 kf 0 (1 + r.val) ∗ Fr) ⊢ WP c (Prog.lift (.waitDma2
      ((cc0_scratch5.slice (Rect.unit (s := S16) o S1.size hs)).squeeze S_ squeezes_S1_S_).sem src dst hws hwd)) Q :=
  wait_step P G K c 2 kf 0 (1 + r.val) (by omega) (by omega) (used2 c (by omega) (by omega)) (may_free c _) (sem_of2 _ hsm _) hN hk

/-- The copy of step `1 + r` of the second exchange. -/
theorem send2 (r : Fin 15) {d : Dev nD} (hd : d = pk c (1 + r.val)) {ho} {hu} {ho2} {hu2} {o : Fin 1 → Nat} (hsm : o = ![(kf (1 + r.val)).val]) {hs1} {hs2}
    {hws} {hwd} {hrt : _} {Fr : sProp 𝕄} {Q : PUnit → sProp 𝕄}
    (hk : iprop(ctx P G K ∗ phD G c (1 + r.val + 1) ∗ Fr) ⊢ Q ⟨⟩) :
    iprop(ctx P G K ∗ phD G c (1 + r.val) ∗ Fr) ⊢ WP c (Prog.lift (.enqueueDma
      (gbM.slice (Rect.unit (s := S256x512) (k0_off8 c) S16x512.size ho) hu)
      (.remote (Dev.tc d) (gbM.slice (Rect.unit (s := S256x512) (k0_off8 c) S16x512.size ho2) hu2)
        (.dma ((cc0_scratch5.slice (Rect.unit (s := S16) o S1.size hs1)).squeeze S_ squeezes_S1_S_).sem))
      (.dma ((cc0_scratch6.slice (Rect.unit (s := S16) (k0_off1 c) S1.size hs2)).squeeze S_ squeezes_S1_S_).sem) hws hwd hrt)) Q :=
  send2_step P G K c (1 + r.val) (by omega) (by omega) hd (rows_of _ _ (Gen.k0_off8_eq c) _ _) (rows_of _ _ (Gen.k0_off8_eq c) _ _)
    (sem_of2 _ hsm _) (sem_of3 c (Gen.k0_off1_eq c) _) hk

end

/-- Copies one to three. -/
theorem piece9 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : ∀ w, iprop(ctx P G K ∗ phB P c 4 ∗ Fr) ⊢ Q w) :
    iprop(ctx P G K ∗ phB P c 1 ∗ Fr)
      ⊢ WP c (k0_part9 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part9_eq_skeleton]; unfold Gen.k0_part9_skel; dsimp only
  refine then_step c (send1 P G K c 0 (Fin.ext (Gen.k0_dev16_eq c)) rfl ?_)
  refine then_step c (send1 P G K c 1 (Fin.ext (Gen.k0_dev17_eq c)) rfl ?_)
  refine then_step c (send1 P G K c 2 (Fin.ext (Gen.k0_dev18_eq c)) rfl ?_)
  exact done_step c (hk _)

/-- Copies four to six. -/
theorem piece10 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : iprop(ctx P G K ∗ phB P c 7 ∗ Fr) ⊢ Q ⟨⟩) :
    iprop(ctx P G K ∗ phB P c 4 ∗ Fr)
      ⊢ WP c (k0_part10 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w) Q := by
  rw [Gen.k0_part10_eq_skeleton]; unfold Gen.k0_part10_skel; dsimp only
  refine then_step c (send1 P G K c 3 (Fin.ext (Gen.k0_dev19_eq c)) rfl ?_)
  refine then_step c (send1 P G K c 4 (Fin.ext (Gen.k0_dev20_eq c)) rfl ?_)
  refine then_step c (send1 P G K c 5 (Fin.ext (Gen.k0_dev21_eq c)) rfl ?_)
  exact done_step c hk

/-- Copies seven and eight. -/
theorem piece11 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : iprop(ctx P G K ∗ phB P c 9 ∗ Fr) ⊢ Q ⟨⟩) :
    iprop(ctx P G K ∗ phB P c 7 ∗ Fr)
      ⊢ WP c (k0_part11 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part11_eq_skeleton]; unfold Gen.k0_part11_skel; dsimp only
  refine then_step c (send1 P G K c 6 (Fin.ext (Gen.k0_dev22_eq c)) rfl ?_)
  refine then_step c (send1 P G K c 7 (Fin.ext (Gen.k0_dev23_eq c)) rfl ?_)
  exact done_step c hk

/-- Copies nine to eleven. -/
theorem piece12 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : ∀ w, iprop(ctx P G K ∗ phB P c 12 ∗ Fr) ⊢ Q ⟨w, 0#32⟩) :
    iprop(ctx P G K ∗ phB P c 9 ∗ Fr)
      ⊢ WP c (k0_part12 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part12_eq_skeleton]; unfold Gen.k0_part12_skel; dsimp only
  refine then_step c (send1 P G K c 8 (Fin.ext (Gen.k0_dev24_eq c)) rfl ?_)
  refine then_step c (send1 P G K c 9 (Fin.ext (Gen.k0_dev25_eq c)) rfl ?_)
  refine then_step c (send1 P G K c 10 (Fin.ext (Gen.k0_dev26_eq c)) rfl ?_)
  exact done_step c (hk _)

/-- Copies twelve to fourteen. -/
theorem piece13 (P : Dev nD → Vec F S256x512 .bf16) (G : Vec F S256x512 .bf16) (K : GSem nD τ sig → ℕ) (c : Dev nD) {Fr : sProp 𝕄} {w2 w w' : BitVec 32}
    {h0} {h1} {h2} {h3} {h4} {h5} {h6} {h7} {h8}
    {Q : _ → sProp 𝕄} (hk : ∀ w, iprop(ctx P G K ∗ phB P c 15 ∗ Fr) ⊢ Q w) :
    iprop(ctx P G K ∗ phB P c 12 ∗ Fr)
      ⊢ WP c (k0_part13 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w w') Q := by
  rw [Gen.k0_part13_eq_skeleton]; unfold Gen.k0_part13_skel; dsimp only
  refine then_step c (send1 P G K c 11 (Fin.ext (Gen.k0_dev27_eq c)) rfl ?_)
  refine then_step c (send1 P G K c 12 (Fin.ext (Gen.k0_dev28_eq c)) rfl ?_)
  refine then_step c (send1 P G K c 13 (Fin.ext (Gen.k0_dev29_eq c)) rfl ?_)
  exact done_step c (hk _)

/-- The last copy; the device's own rows and the first that land. -/
theorem piece14 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : ∀ w, iprop(ctx P G K ∗ phW P G c 1 (pk c) (ow3 c 1) 2 ∗ (sbAt c c (P c) ∗ creds c 0 kf ∗ Fr)) ⊢ Q ⟨acc1 P c, w⟩) :
    iprop(ctx P G K ∗ phB P c 15 ∗ (sbAt c c (P c) ∗ (creds c 1 (pk c) ∗ ats c 1 (pk c)) ∗ Fr))
      ⊢ WP c (k0_part14 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w) Q := by
  rw [Gen.k0_part14_eq_skeleton]; unfold Gen.k0_part14_skel; dsimp only
  refine then_step c (send1 P G K c 14 (Fin.ext (Gen.k0_dev30_eq c)) rfl ?_)
  refine then_step c (load_own P c (Gen.k0_off4_eq c) ((sends1_end P G K c).trans ?_))
  refine then_step c (recv1 P G K c 0 ?_)
  refine then_step c (load_slot P G K c 1 (by decide) (off7 c 0) ?_)
  exact done_step c (hk _)

/-- Landings two and three. -/
theorem piece15 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : ∀ w, iprop(ctx P G K ∗ phW P G c 1 (pk c) (ow3 c 1) 4 ∗ Fr) ⊢ Q ⟨acc3 P c, w⟩) :
    iprop(ctx P G K ∗ phW P G c 1 (pk c) (ow3 c 1) 2 ∗ Fr)
      ⊢ WP c (k0_part15 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (acc1 P c) w) Q := by
  rw [Gen.k0_part15_eq_skeleton]; unfold Gen.k0_part15_skel; dsimp only
  refine then_step c (recv1 P G K c 1 ?_)
  refine then_step c (load_slot P G K c 2 (by decide) (off7 c 1) ?_)
  refine then_step c (recv1 P G K c 2 ?_)
  refine then_step c (load_slot P G K c 3 (by decide) (off7 c 2) ?_)
  exact done_step c (hk _)

/-- Landings four to six. -/
theorem piece16 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : iprop(ctx P G K ∗ phW P G c 1 (pk c) (ow3 c 1) 7 ∗ Fr) ⊢ Q (acc6 P c)) :
    iprop(ctx P G K ∗ phW P G c 1 (pk c) (ow3 c 1) 4 ∗ Fr)
      ⊢ WP c (k0_part16 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (acc3 P c) w) Q := by
  rw [Gen.k0_part16_eq_skeleton]; unfold Gen.k0_part16_skel; dsimp only
  refine then_step c (recv1 P G K c 3 ?_)
  refine then_step c (load_slot P G K c 4 (by decide) (off7 c 3) ?_)
  refine then_step c (recv1 P G K c 4 ?_)
  refine then_step c (load_slot P G K c 5 (by decide) (off7 c 4) ?_)
  refine then_step c (recv1 P G K c 5 ?_)
  refine then_step c (load_slot P G K c 6 (by decide) (off7 c 5) ?_)
  exact done_step c hk

/-- Landings seven and eight. -/
theorem piece17 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : ∀ w w', iprop(ctx P G K ∗ phW P G c 1 (pk c) (ow3 c 1) 9 ∗ Fr) ⊢ Q ⟨acc8 P c, w, w', 0#32⟩) :
    iprop(ctx P G K ∗ phW P G c 1 (pk c) (ow3 c 1) 7 ∗ Fr)
      ⊢ WP c (k0_part17 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (acc6 P c)) Q := by
  rw [Gen.k0_part17_eq_skeleton]; unfold Gen.k0_part17_skel; dsimp only
  refine then_step c (recv1 P G K c 6 ?_)
  refine then_step c (load_slot P G K c 7 (by decide) (off7 c 6) ?_)
  refine then_step c (recv1 P G K c 7 ?_)
  refine then_step c (load_slot P G K c 8 (by decide) (off7 c 7) ?_)
  exact done_step c (hk _ _)

/-- Landings nine and ten. -/
theorem piece18 (P : Dev nD → Vec F S256x512 .bf16) (G : Vec F S256x512 .bf16) (K : GSem nD τ sig → ℕ) (c : Dev nD) {Fr : sProp 𝕄} {w2 w w' w'' : BitVec 32}
    {h0} {h1} {h2} {h3} {h4} {h5} {h6} {h7} {h8}
    {Q : _ → sProp 𝕄} (hk : ∀ w, iprop(ctx P G K ∗ phW P G c 1 (pk c) (ow3 c 1) 11 ∗ Fr) ⊢ Q ⟨acc10 P c, w⟩) :
    iprop(ctx P G K ∗ phW P G c 1 (pk c) (ow3 c 1) 9 ∗ Fr)
      ⊢ WP c (k0_part18 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (acc8 P c) w w' w'') Q := by
  rw [Gen.k0_part18_eq_skeleton]; unfold Gen.k0_part18_skel; dsimp only
  refine then_step c (recv1 P G K c 8 ?_)
  refine then_step c (load_slot P G K c 9 (by decide) (off7 c 8) ?_)
  refine then_step c (recv1 P G K c 9 ?_)
  refine then_step c (load_slot P G K c 10 (by decide) (off7 c 9) ?_)
  exact done_step c (hk _)

/-- Landings eleven to thirteen. -/
theorem piece19 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : iprop(ctx P G K ∗ phW P G c 1 (pk c) (ow3 c 1) 14 ∗ Fr) ⊢ Q ⟨acc12 P c, Gen.k0_pay27 (slotK P c 13)⟩) :
    iprop(ctx P G K ∗ phW P G c 1 (pk c) (ow3 c 1) 11 ∗ Fr)
      ⊢ WP c (k0_part19 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (acc10 P c) w) Q := by
  rw [Gen.k0_part19_eq_skeleton]; unfold Gen.k0_part19_skel; dsimp only
  refine then_step c (recv1 P G K c 10 ?_)
  refine then_step c (load_slot P G K c 11 (by decide) (off7 c 10) ?_)
  refine then_step c (recv1 P G K c 11 ?_)
  refine then_step c (load_slot P G K c 12 (by decide) (off7 c 11) ?_)
  refine then_step c (recv1 P G K c 12 ?_)
  refine then_step c (load_slot P G K c 13 (by decide) (off7 c 12) ?_)
  exact done_step c hk

end Cert.Talk

end
-- ==== Proof.Parts3.lean ====
/-
  The third part of the kernel: the reduced rows out to every device, the others' in, and the waits for the copies to have left.
-/
module

public import proofs.«01_k».proof.Proof.Parts2

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section

variable (P : Dev nD → Vec F S256x512 .bf16) (G : Vec F S256x512 .bf16) (K : GSem nD τ sig → ℕ) (c : Dev nD)

/-- Where the second exchange's copies write, and the right to complete them. -/
def dests : sProp 𝕄 := bigSep (Finset.Ico 1 16) fun k => iprop((∃ f, gbAt (F := F) (pk c k) c fullShare f)
        ∗ dutyTok ER (dCell c 2 (kf k)) 0 (0 : Dev nD) ∗ reached ER (dCell c 2 (kf k)) 0
        ∗ dutyTok ER (dCell (pk c k) 3 c) 0 (0 : Dev nD) ∗ reached ER (dCell (pk c k) 3 c) 0)

/-- Two families over the steps as one. -/
theorem zip_steps (Φ Ψ : ℕ → sProp 𝕄) :
    iprop(bigSep (Finset.Ico 1 16) Φ ∗ bigSep (Finset.Ico 1 16) Ψ) ⊢ bigSep (Finset.Ico 1 16) fun k => iprop(Φ k ∗ Ψ k) :=
  Entails.of_eq (BI.bigSep_sep _ _ _).symm
theorem unzip_steps (Φ Ψ : ℕ → sProp 𝕄) :
    (bigSep (Finset.Ico 1 16) fun k => iprop(Φ k ∗ Ψ k)) ⊢ iprop(bigSep (Finset.Ico 1 16) Φ ∗ bigSep (Finset.Ico 1 16) Ψ) :=
  Entails.of_eq (BI.bigSep_sep _ _ _)

/-- The device's gathered rows as fifteen shares, one for each copy. -/
theorem own_shares : (gbAt c c fullShare G : sProp 𝕄) = bigSep (Finset.Ico 1 16) fun k => gbAt c c (qk k) G :=
  Transfers.pointsTo_deal (Finset.Ico 1 16) ⟨1, by decide⟩ fullShare

/-- Before the second exchange: the landings of the first are in hand, the reduced rows are written. -/
theorem sends2_start {Fr : sProp 𝕄} :
    iprop(ctx P G K ∗ phW P G c 1 (pk c) (ow3 c 1) 16 ∗ (gbAt c c fullShare G ∗ dests (F := F) c ∗ Fr))
      ⊢ iprop(ctx P G K ∗ phD G c 1 ∗ (got P G c 1 (pk c) ∗ Fr)) := by
  rw [own_shares]
  unfold dests
  iintro ⟨Hc, HW, Hs, Hd, HF⟩
  ihave HW := (waits_end P G c 1 (pk c) (ow3 c 1)) $$ HW
  icases HW with ⟨HO, Hg⟩
  ihave Hz := (zip_steps (fun k => gbAt c c (qk k) G) (fun k => iprop((∃ f, gbAt (F := F) (pk c k) c fullShare f)
        ∗ dutyTok ER (dCell c 2 (kf k)) 0 (0 : Dev nD) ∗ reached ER (dCell c 2 (kf k)) 0
        ∗ dutyTok ER (dCell (pk c k) 3 c) 0 (0 : Dev nD) ∗ reached ER (dCell (pk c k) 3 c) 0))) $$ [Hs Hd]
  · isplitl [Hs]; · iexact Hs
    iexact Hd
  isplitl [Hc]; · iexact Hc
  isplitl [HO Hz]
  · unfold phD
    rw [Finset.Ico_self, bigSep_empty]
    isplitl [Hz]; · iexact Hz
    isplitl; · iexact HO
    iempintro
  isplitl [Hg]; · iexact Hg
  iexact HF

theorem own_rows_sub {o : Fin 2 → Nat} (ho : o = ![16 * c.val, 0]) (hb) :
    gbM.view.setOn (Rect.unit (s := S256x512) o S16x512.size hb).set ⊆ (rowsM gbM c).view.set := by
  subst ho
  rw [gb_set]; unfold rowsR
  rw [show gbM.view.setOn (Rect.unit (s := S256x512) ![16 * c.val, 0] S16x512.size hb).set
    = (Rect.unit (s := S256x512) ![16 * c.val, 0] S16x512.size (rows_inb c)).set from Finset.map_refl]

/-- The kernel's load of its own gathered rows, whose value it does not use. -/
theorem load_mine {A B Fr : sProp 𝕄} {g : Vec F S256x512 .bf16} {o : Fin 2 → Nat} (ho : o = ![16 * c.val, 0]) {hb} {hl} {Q : _ → sProp 𝕄}
    (hk : ∀ v, iprop(A ∗ B ∗ (gbAt c c fullShare g ∗ Fr)) ⊢ Q v) :
    iprop(A ∗ B ∗ (gbAt c c fullShare g ∗ Fr)) ⊢ WP c (Prog.lift (.load gbM (Rect.unit (s := S256x512) o S16x512.size hb).toLoadRect hl)) Q := by
  refine load_step (F := F) c (m := gbM) (S := (rowsM gbM c).view.set) (q := fullShare) (f := g) (own_rows_sub c ho hb) ?_ (hk _)
  iintro ⟨HA, HB, Hs, HR⟩
  isplitl [Hs]; · iexact Hs
  iintro Hs
  isplitl [HA]; · iexact HA
  isplitl [HB]; · iexact HB
  isplitl [Hs]; · iexact Hs
  iexact HR

/-- The store of the reduced rows. -/
theorem store_mine {A B Fr : sProp 𝕄} {g : Vec F S256x512 .bf16} {o : Fin 2 → Nat} (ho : o = ![16 * c.val, 0]) {hb} {hx} {hm} {Q : PUnit → sProp 𝕄}
    (hk : iprop(A ∗ B ∗ (gbAt c c fullShare (gathered P) ∗ Fr)) ⊢ Q ⟨⟩) :
    iprop(A ∗ B ∗ (gbAt c c fullShare g ∗ Fr)) ⊢ WP c (Prog.lift (.store gbM (Rect.unit (s := S256x512) o S16x512.size hb) (Gen.k0_pay29 (reduced P c)) Finset.univ hx hm)) Q := by
  refine store_step (F := F) c (m := gbM) (r := Rect.unit (s := S256x512) o S16x512.size hb) (S := (rowsM gbM c).view.set) (f := g) ?_ ?_ hk
  · rw [show (gbM.access (Rect.unit (s := S256x512) o S16x512.size hb)).setOn Finset.univ = gbM.view.setOn (Rect.unit (s := S256x512) o S16x512.size hb).set from
      (View.set_slice_whole _ _).trans Finset.map_refl.symm]
    exact own_rows_sub c ho hb
  iintro ⟨HA, HB, Hs, HR⟩
  isplitl [Hs]; · iexact Hs
  iintro Hs
  isplitl [HA]; · iexact HA
  isplitl [HB]; · iexact HB
  isplitl [Hs]; · iapply (Entails.of_eq (write_rows P c ho hb g)); iexact Hs
  iexact HR

end

/-- The last landings of the first exchange. -/
theorem piece20 (P : Dev nD → Vec F S256x512 .bf16) (G : Vec F S256x512 .bf16) (K : GSem nD τ sig → ℕ) (c : Dev nD) {Fr : sProp 𝕄} {g : Vec F S256x512 .bf16} {w2 : BitVec 32}
    {h0} {h1} {h2} {h3} {h4} {h5} {h6} {h7} {h8}
    {Q : _ → sProp 𝕄} (hk : ∀ v, iprop(ctx P G K ∗ phW P G c 1 (pk c) (ow3 c 1) 16 ∗ (gbAt c c fullShare g ∗ Fr)) ⊢ Q ⟨reduced P c, v⟩) :
    iprop(ctx P G K ∗ phW P G c 1 (pk c) (ow3 c 1) 14 ∗ (gbAt c c fullShare g ∗ Fr))
      ⊢ WP c (k0_part20 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (acc12 P c) (Gen.k0_pay27 (slotK P c 13))) Q := by
  rw [Gen.k0_part20_eq_skeleton]; unfold Gen.k0_part20_skel; dsimp only
  refine then_step c (recv1 P G K c 13 ?_)
  refine then_step c (load_slot P G K c 14 (by decide) (off7 c 13) ?_)
  refine then_step c (recv1 P G K c 14 ?_)
  refine then_step c (load_slot P G K c 15 (by decide) (off7 c 14) ?_)
  refine then_step c (load_mine c (Gen.k0_off4_eq c) fun v => ?_)
  exact done_step c (hk _)

/-- The reduced rows are stored; the first two copies of the second exchange. -/
theorem piece21 (P : Dev nD → Vec F S256x512 .bf16) (G : Vec F S256x512 .bf16) (K : GSem nD τ sig → ℕ) (c : Dev nD) {Fr : sProp 𝕄} {g : Vec F S256x512 .bf16} {w2 : BitVec 32} {v : Vec F S16x512 .bf16} (hG : G = gathered P)
    {h0} {h1} {h2} {h3} {h4} {h5} {h6} {h7} {h8}
    {Q : _ → sProp 𝕄} (hk : iprop(ctx P G K ∗ phD G c 3 ∗ (got P G c 1 (pk c) ∗ Fr)) ⊢ Q ⟨⟩) :
    iprop(ctx P G K ∗ phW P G c 1 (pk c) (ow3 c 1) 16 ∗ (gbAt c c fullShare g ∗ dests (F := F) c ∗ Fr))
      ⊢ WP c (k0_part21 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 (reduced P c) v) Q := by
  rw [Gen.k0_part21_eq_skeleton]; unfold Gen.k0_part21_skel; dsimp only
  subst hG
  refine then_step c (store_mine P c (Gen.k0_off4_eq c) ((sends2_start P (gathered P) K c).trans ?_))
  refine then_step c (send2 P (gathered P) K c 0 (Fin.ext (Gen.k0_dev31_eq c)) rfl ?_)
  refine then_step c (send2 P (gathered P) K c 1 (Fin.ext (Gen.k0_dev32_eq c)) rfl ?_)
  exact done_step c hk

/-- Copies three to five. -/
theorem piece22 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : ∀ w, iprop(ctx P G K ∗ phD G c 6 ∗ Fr) ⊢ Q ⟨w, 16#32⟩) :
    iprop(ctx P G K ∗ phD G c 3 ∗ Fr)
      ⊢ WP c (k0_part22 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part22_eq_skeleton]; unfold Gen.k0_part22_skel; dsimp only
  refine then_step c (send2 P G K c 2 (Fin.ext (Gen.k0_dev33_eq c)) rfl ?_)
  refine then_step c (send2 P G K c 3 (Fin.ext (Gen.k0_dev34_eq c)) rfl ?_)
  refine then_step c (send2 P G K c 4 (Fin.ext (Gen.k0_dev35_eq c)) rfl ?_)
  exact done_step c (hk _)

/-- Copies six to eight. -/
theorem piece23 (P : Dev nD → Vec F S256x512 .bf16) (G : Vec F S256x512 .bf16) (K : GSem nD τ sig → ℕ) (c : Dev nD) {Fr : sProp 𝕄} {w2 w w' : BitVec 32}
    {h0} {h1} {h2} {h3} {h4} {h5} {h6} {h7} {h8}
    {Q : _ → sProp 𝕄} (hk : iprop(ctx P G K ∗ phD G c 9 ∗ Fr) ⊢ Q (9#32)) :
    iprop(ctx P G K ∗ phD G c 6 ∗ Fr)
      ⊢ WP c (k0_part23 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w w') Q := by
  rw [Gen.k0_part23_eq_skeleton]; unfold Gen.k0_part23_skel; dsimp only
  refine then_step c (send2 P G K c 5 (Fin.ext (Gen.k0_dev36_eq c)) rfl ?_)
  refine then_step c (send2 P G K c 6 (Fin.ext (Gen.k0_dev37_eq c)) rfl ?_)
  refine then_step c (send2 P G K c 7 (Fin.ext (Gen.k0_dev38_eq c)) rfl ?_)
  exact done_step c hk

/-- Copies nine and ten. -/
theorem piece24 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : iprop(ctx P G K ∗ phD G c 11 ∗ Fr) ⊢ Q ⟨⟩) :
    iprop(ctx P G K ∗ phD G c 9 ∗ Fr)
      ⊢ WP c (k0_part24 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w) Q := by
  rw [Gen.k0_part24_eq_skeleton]; unfold Gen.k0_part24_skel; dsimp only
  refine then_step c (send2 P G K c 8 (Fin.ext (Gen.k0_dev39_eq c)) rfl ?_)
  refine then_step c (send2 P G K c 9 (Fin.ext (Gen.k0_dev40_eq c)) rfl ?_)
  exact done_step c hk

/-- Copies eleven to thirteen. -/
theorem piece25 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : ∀ w, iprop(ctx P G K ∗ phD G c 14 ∗ Fr) ⊢ Q w) :
    iprop(ctx P G K ∗ phD G c 11 ∗ Fr)
      ⊢ WP c (k0_part25 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part25_eq_skeleton]; unfold Gen.k0_part25_skel; dsimp only
  refine then_step c (send2 P G K c 10 (Fin.ext (Gen.k0_dev41_eq c)) rfl ?_)
  refine then_step c (send2 P G K c 11 (Fin.ext (Gen.k0_dev42_eq c)) rfl ?_)
  refine then_step c (send2 P G K c 12 (Fin.ext (Gen.k0_dev43_eq c)) rfl ?_)
  exact done_step c (hk _)

/-- The last two copies, and the first wait. -/
theorem piece26 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : ∀ w, iprop(ctx P G K ∗ phW P G c 3 (pk c) 0 2 ∗ (creds c 2 kf ∗ Fr)) ⊢ Q ⟨w, 1#32⟩) :
    iprop(ctx P G K ∗ phD G c 14 ∗ ((creds c 3 (pk c) ∗ ats c 3 (pk c)) ∗ Fr))
      ⊢ WP c (k0_part26 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w) Q := by
  rw [Gen.k0_part26_eq_skeleton]; unfold Gen.k0_part26_skel; dsimp only
  refine then_step c (send2 P G K c 13 (Fin.ext (Gen.k0_dev44_eq c)) rfl ?_)
  refine then_step c (send2 P G K c 14 (Fin.ext (Gen.k0_dev45_eq c)) rfl ((sends2_end P G K c).trans ?_))
  refine then_step c (recv2 P G K c 0 (N_gb _ (off3 c 0) _ _) ?_)
  exact done_step c (hk _)

/-- Waits two to four. -/
theorem piece27 (P : Dev nD → Vec F S256x512 .bf16) (G : Vec F S256x512 .bf16) (K : GSem nD τ sig → ℕ) (c : Dev nD) {Fr : sProp 𝕄} {w2 w w' : BitVec 32}
    {h0} {h1} {h2} {h3} {h4} {h5} {h6} {h7} {h8}
    {Q : _ → sProp 𝕄} (hk : iprop(ctx P G K ∗ phW P G c 3 (pk c) 0 5 ∗ Fr) ⊢ Q ⟨⟩) :
    iprop(ctx P G K ∗ phW P G c 3 (pk c) 0 2 ∗ Fr)
      ⊢ WP c (k0_part27 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w w') Q := by
  rw [Gen.k0_part27_eq_skeleton]; unfold Gen.k0_part27_skel; dsimp only
  refine then_step c (recv2 P G K c 1 (N_gb _ (off3 c 1) _ _) ?_)
  refine then_step c (recv2 P G K c 2 (N_gb _ (off3 c 2) _ _) ?_)
  refine then_step c (recv2 P G K c 3 (N_gb _ (off3 c 3) _ _) ?_)
  exact done_step c hk

/-- Waits five to seven. -/
theorem piece28 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : iprop(ctx P G K ∗ phW P G c 3 (pk c) 0 8 ∗ Fr) ⊢ Q ⟨⟩) :
    iprop(ctx P G K ∗ phW P G c 3 (pk c) 0 5 ∗ Fr)
      ⊢ WP c (k0_part28 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part28_eq_skeleton]; unfold Gen.k0_part28_skel; dsimp only
  refine then_step c (recv2 P G K c 4 (N_gb _ (off3 c 4) _ _) ?_)
  refine then_step c (recv2 P G K c 5 (N_gb _ (off3 c 5) _ _) ?_)
  refine then_step c (recv2 P G K c 6 (N_gb _ (off3 c 6) _ _) ?_)
  exact done_step c hk

/-- Waits eight to ten. -/
theorem piece29 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : iprop(ctx P G K ∗ phW P G c 3 (pk c) 0 11 ∗ Fr) ⊢ Q ⟨⟩) :
    iprop(ctx P G K ∗ phW P G c 3 (pk c) 0 8 ∗ Fr)
      ⊢ WP c (k0_part29 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part29_eq_skeleton]; unfold Gen.k0_part29_skel; dsimp only
  refine then_step c (recv2 P G K c 7 (N_gb _ (off3 c 7) _ _) ?_)
  refine then_step c (recv2 P G K c 8 (N_gb _ (off3 c 8) _ _) ?_)
  refine then_step c (recv2 P G K c 9 (N_gb _ (off3 c 9) _ _) ?_)
  exact done_step c hk

/-- Waits eleven to fourteen. -/
theorem piece30 (P : Dev nD → Vec F S256x512 .bf16) (G : Vec F S256x512 .bf16) (K : GSem nD τ sig → ℕ) (c : Dev nD) {Fr : sProp 𝕄} {w2 : BitVec 32}
    {h0} {h1} {h2} {h3} {h4} {h5} {h6} {h7} {h8}
    {Q : _ → sProp 𝕄} (hk : iprop(ctx P G K ∗ phW P G c 3 (pk c) 0 15 ∗ Fr) ⊢ Q (15#32)) :
    iprop(ctx P G K ∗ phW P G c 3 (pk c) 0 11 ∗ Fr)
      ⊢ WP c (k0_part30 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2) Q := by
  rw [Gen.k0_part30_eq_skeleton]; unfold Gen.k0_part30_skel; dsimp only
  refine then_step c (recv2 P G K c 10 (N_gb _ (off3 c 10) _ _) ?_)
  refine then_step c (recv2 P G K c 11 (N_gb _ (off3 c 11) _ _) ?_)
  refine then_step c (recv2 P G K c 12 (N_gb _ (off3 c 12) _ _) ?_)
  refine then_step c (recv2 P G K c 13 (N_gb _ (off3 c 13) _ _) ?_)
  exact done_step c hk

/-- The last wait for the others' rows, and three for the first exchange's copies to have left. -/
theorem piece31 (P : Dev nD → Vec F S256x512 .bf16) (G : Vec F S256x512 .bf16) (K : GSem nD τ sig → ℕ) (c : Dev nD) {Fr : sProp 𝕄} {w2 w : BitVec 32}
    {h0} {h1} {h2} {h3} {h4} {h5} {h6} {h7} {h8}
    {Q : _ → sProp 𝕄} (hk : iprop(ctx P G K ∗ phW P G c 0 kf 0 4 ∗ (got P G c 3 (pk c) ∗ Fr)) ⊢ Q ⟨⟩) :
    iprop(ctx P G K ∗ phW P G c 3 (pk c) 0 15 ∗ ((creds c 0 kf ∗ ats c 0 kf) ∗ Fr))
      ⊢ WP c (k0_part31 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c w2 w) Q := by
  rw [Gen.k0_part31_eq_skeleton]; unfold Gen.k0_part31_skel; dsimp only
  refine then_step c (recv2 P G K c 14 (N_gb _ (off3 c 14) _ _) ((waits_next P G K c 3 0 (pk c) kf 0).trans ?_))
  refine then_step c (sent1 P G K c 0 (N_sb _ (off3 c 0) _ _) rfl ?_)
  refine then_step c (sent1 P G K c 1 (N_sb _ (off3 c 1) _ _) rfl ?_)
  refine then_step c (sent1 P G K c 2 (N_sb _ (off3 c 2) _ _) rfl ?_)
  exact done_step c hk

/-- Six more. -/
theorem piece32 (P : Dev nD → Vec F S256x512 .bf16) (G : Vec F S256x512 .bf16) (K : GSem nD τ sig → ℕ) (c : Dev nD) {Fr : sProp 𝕄}
    {h0} {h1} {h2} {h3} {h4} {h5} {h6} {h7} {h8}
    {Q : _ → sProp 𝕄} (hk : iprop(ctx P G K ∗ phW P G c 0 kf 0 10 ∗ Fr) ⊢ Q ⟨⟩) :
    iprop(ctx P G K ∗ phW P G c 0 kf 0 4 ∗ Fr)
      ⊢ WP c (k0_part32 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c) Q := by
  rw [Gen.k0_part32_eq_skeleton]; unfold Gen.k0_part32_skel; dsimp only
  refine then_step c (sent1 P G K c 3 (N_sb _ (off3 c 3) _ _) rfl ?_)
  refine then_step c (sent1 P G K c 4 (N_sb _ (off3 c 4) _ _) rfl ?_)
  refine then_step c (sent1 P G K c 5 (N_sb _ (off3 c 5) _ _) rfl ?_)
  refine then_step c (sent1 P G K c 6 (N_sb _ (off3 c 6) _ _) rfl ?_)
  refine then_step c (sent1 P G K c 7 (N_sb _ (off3 c 7) _ _) rfl ?_)
  refine then_step c (sent1 P G K c 8 (N_sb _ (off3 c 8) _ _) rfl ?_)
  exact done_step c hk

/-- Five more. -/
theorem piece33 (P : Dev nD → Vec F S256x512 .bf16) (G : Vec F S256x512 .bf16) (K : GSem nD τ sig → ℕ) (c : Dev nD) {Fr : sProp 𝕄}
    {h0} {h1} {h2} {h3} {h4} {h5} {h6} {h7} {h8}
    {Q : _ → sProp 𝕄} (hk : iprop(ctx P G K ∗ phW P G c 0 kf 0 15 ∗ Fr) ⊢ Q ⟨⟩) :
    iprop(ctx P G K ∗ phW P G c 0 kf 0 10 ∗ Fr)
      ⊢ WP c (k0_part33 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c) Q := by
  rw [Gen.k0_part33_eq_skeleton]; unfold Gen.k0_part33_skel; dsimp only
  refine then_step c (sent1 P G K c 9 (N_sb _ (off3 c 9) _ _) rfl ?_)
  refine then_step c (sent1 P G K c 10 (N_sb _ (off3 c 10) _ _) rfl ?_)
  refine then_step c (sent1 P G K c 11 (N_sb _ (off3 c 11) _ _) rfl ?_)
  refine then_step c (sent1 P G K c 12 (N_sb _ (off3 c 12) _ _) rfl ?_)
  refine then_step c (sent1 P G K c 13 (N_sb _ (off3 c 13) _ _) rfl ?_)
  exact done_step c hk

/-- The last of these, and six for the second exchange's copies. -/
theorem piece34 (P : Dev nD → Vec F S256x512 .bf16) (G : Vec F S256x512 .bf16) (K : GSem nD τ sig → ℕ) (c : Dev nD) {Fr : sProp 𝕄}
    {h0} {h1} {h2} {h3} {h4} {h5} {h6} {h7} {h8}
    {Q : _ → sProp 𝕄} (hk : iprop(ctx P G K ∗ phW P G c 2 kf 0 7 ∗ (got P G c 0 kf ∗ Fr)) ⊢ Q ⟨⟩) :
    iprop(ctx P G K ∗ phW P G c 0 kf 0 15 ∗ ((creds c 2 kf ∗ ats c 2 kf) ∗ Fr))
      ⊢ WP c (k0_part34 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c) Q := by
  rw [Gen.k0_part34_eq_skeleton]; unfold Gen.k0_part34_skel; dsimp only
  refine then_step c (sent1 P G K c 14 (N_sb _ (off3 c 14) _ _) rfl ((waits_next P G K c 0 2 kf kf 0).trans ?_))
  refine then_step c (sent2 P G K c 0 (N_gb _ (Gen.k0_off8_eq c) _ _) rfl ?_)
  refine then_step c (sent2 P G K c 1 (N_gb _ (Gen.k0_off8_eq c) _ _) rfl ?_)
  refine then_step c (sent2 P G K c 2 (N_gb _ (Gen.k0_off8_eq c) _ _) rfl ?_)
  refine then_step c (sent2 P G K c 3 (N_gb _ (Gen.k0_off8_eq c) _ _) rfl ?_)
  refine then_step c (sent2 P G K c 4 (N_gb _ (Gen.k0_off8_eq c) _ _) rfl ?_)
  refine then_step c (sent2 P G K c 5 (N_gb _ (Gen.k0_off8_eq c) _ _) rfl ?_)
  exact done_step c hk

/-- Seven more. -/
theorem piece35 (P : Dev nD → Vec F S256x512 .bf16) (G : Vec F S256x512 .bf16) (K : GSem nD τ sig → ℕ) (c : Dev nD) {Fr : sProp 𝕄}
    {h0} {h1} {h2} {h3} {h4} {h5} {h6} {h7} {h8}
    {Q : _ → sProp 𝕄} (hk : iprop(ctx P G K ∗ phW P G c 2 kf 0 14 ∗ Fr) ⊢ Q ⟨⟩) :
    iprop(ctx P G K ∗ phW P G c 2 kf 0 7 ∗ Fr)
      ⊢ WP c (k0_part35 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6 c) Q := by
  rw [Gen.k0_part35_eq_skeleton]; unfold Gen.k0_part35_skel; dsimp only
  refine then_step c (sent2 P G K c 6 (N_gb _ (Gen.k0_off8_eq c) _ _) rfl ?_)
  refine then_step c (sent2 P G K c 7 (N_gb _ (Gen.k0_off8_eq c) _ _) rfl ?_)
  refine then_step c (sent2 P G K c 8 (N_gb _ (Gen.k0_off8_eq c) _ _) rfl ?_)
  refine then_step c (sent2 P G K c 9 (N_gb _ (Gen.k0_off8_eq c) _ _) rfl ?_)
  refine then_step c (sent2 P G K c 10 (N_gb _ (Gen.k0_off8_eq c) _ _) rfl ?_)
  refine then_step c (sent2 P G K c 11 (N_gb _ (Gen.k0_off8_eq c) _ _) rfl ?_)
  refine then_step c (sent2 P G K c 12 (N_gb _ (Gen.k0_off8_eq c) _ _) rfl ?_)
  exact done_step c hk

end Cert.Talk

end
-- ==== Proof.Run.lean ====
/-
  The whole kernel on one device, from the pieces it is given to the pieces it gives back.
-/
module

public import proofs.«01_k».proof.Proof.Parts3

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section

variable (P : Dev nD → Vec F S256x512 .bf16) (G : Vec F S256x512 .bf16) (K : GSem nD τ sig → ℕ) (c : Dev nD)

/-- The right to complete the copies of both exchanges, by step. -/
def toks : sProp 𝕄 := bigSep (Finset.Ico 1 16) fun k => iprop(
    (dutyTok ER (dCell c 0 (kf k)) 0 (0 : Dev nD) ∗ reached ER (dCell c 0 (kf k)) 0 ∗ dutyTok ER (dCell (pk c k) 1 c) 0 (0 : Dev nD))
  ∗ (dutyTok ER (dCell c 2 (kf k)) 0 (0 : Dev nD) ∗ reached ER (dCell c 2 (kf k)) 0 ∗ dutyTok ER (dCell (pk c k) 3 c) 0 (0 : Dev nD)))

/-- The positions of fifteen cells after their round. -/
def pos1 (a : Fin 4) (idx : ℕ → Fin 16) : sProp 𝕄 := bigSep (Finset.Ico 1 16) fun k => atPos ER (dCell c a (idx k)) 1 ∅ 0

/-- A family over all devices is its member at `c` and the family over the steps from `c`. -/
theorem all_devs (Φ : Fin 16 → sProp 𝕄) : bigSep Finset.univ Φ = iprop(Φ c ∗ bigSep (Finset.Ico 1 16) fun k => Φ (pk c k)) := by
  rw [steps_devs c Φ]
  exact bigSep_erase (Finset.mem_univ c)

/-- The send buffer whole is the device's own rows and those for each step. -/
theorem sb_steps (f : Vec F S256x512 .bf16) :
    (whole c cc0_scratch0 f : sProp 𝕄) = iprop(sbAt c c f ∗ bigSep (Finset.Ico 1 16) fun k => sbAt c (pk c k) f) :=
  (sb_split c f).trans (all_devs c fun p => sbAt c p f)
/-- The gathered buffer likewise, -/
theorem gb_steps (f : Vec F S256x512 .bf16) :
    (whole c cc0_scratch2 f : sProp 𝕄) = iprop(gbAt c c fullShare f ∗ bigSep (Finset.Ico 1 16) fun k => gbAt c (pk c k) fullShare f) :=
  (gb_split c f).trans (all_devs c fun p => gbAt c p fullShare f)
/-- and the landing buffer. -/
theorem slot_steps (f : Vec F S16x16x512 .bf16) :
    (whole c cc0_scratch1 f : sProp 𝕄) = iprop(slotAt c c f ∗ bigSep (Finset.Ico 1 16) fun k => slotAt c (pk c k) f) :=
  (slot_split c f).trans (all_devs c fun p => slotAt c p f)

/-- What is in hand at one step before the copies: the rows to send, what the barrier brought, the right to complete. -/
theorem step_start (k : ℕ) :
    iprop((sbAt c (pk c k) (P c) ∗ barPay (F := F) c (pk c k))
      ∗ ((dutyTok ER (dCell c 0 (kf k)) 0 (0 : Dev nD) ∗ reached ER (dCell c 0 (kf k)) 0 ∗ dutyTok ER (dCell (pk c k) 1 c) 0 (0 : Dev nD))
        ∗ (dutyTok ER (dCell c 2 (kf k)) 0 (0 : Dev nD) ∗ reached ER (dCell c 2 (kf k)) 0 ∗ dutyTok ER (dCell (pk c k) 3 c) 0 (0 : Dev nD))))
      ⊢ (iprop((sbAt c (pk c k) (P c) ∗ (∃ f, slotAt (pk c k) c f)
        ∗ dutyTok ER (dCell c 0 (kf k)) 0 (0 : Dev nD) ∗ reached ER (dCell c 0 (kf k)) 0
        ∗ dutyTok ER (dCell (pk c k) 1 c) 0 (0 : Dev nD) ∗ reached ER (dCell (pk c k) 1 c) 0)
        ∗ ((∃ f, gbAt (F := F) (pk c k) c fullShare f)
        ∗ dutyTok ER (dCell c 2 (kf k)) 0 (0 : Dev nD) ∗ reached ER (dCell c 2 (kf k)) 0
        ∗ dutyTok ER (dCell (pk c k) 3 c) 0 (0 : Dev nD) ∗ reached ER (dCell (pk c k) 3 c) 0)) : sProp 𝕄) := by
  unfold barPay
  iintro ⟨⟨Hs, Hsl, Hg, Hr1, Hr3⟩, ⟨Ht0, Hr0, Ht1⟩, ⟨Ht2, Hr2, Ht3⟩⟩
  isplitl [Hs Hsl Hr1 Ht0 Hr0 Ht1]
  · isplitl [Hs]; · iexact Hs
    isplitl [Hsl]; · iexact Hsl
    isplitl [Ht0]; · iexact Ht0
    isplitl [Hr0]; · iexact Hr0
    isplitl [Ht1]; · iexact Ht1
    iexact Hr1
  isplitl [Hg]; · iexact Hg
  isplitl [Ht2]; · iexact Ht2
  isplitl [Hr2]; · iexact Hr2
  isplitl [Ht3]; · iexact Ht3
  iexact Hr3

/-- From the partial product, the barrier's hand-overs and the rights: everything the two exchanges need. -/
theorem exchanges_start :
    iprop(whole c cc0_scratch0 (P c) ∗ bigSep (Finset.Ico 1 16) (fun k => barPay (F := F) c (pk c k)) ∗ ow c (ow3 c 1 + ow1 c 1) ∗ toks (F := F) c)
      ⊢ iprop(phB P c 1 ∗ sbAt c c (P c) ∗ dests (F := F) c) := by
  rw [sb_steps]
  unfold toks phB dests
  rw [Finset.Ico_self, bigSep_empty]
  iintro ⟨⟨Hown, Hsb⟩, Hbar, HO, Htok⟩
  ihave Hz := (zip_steps (fun k => sbAt c (pk c k) (P c)) (fun k => barPay (F := F) c (pk c k))) $$ [Hsb Hbar]
  · isplitl [Hsb]; · iexact Hsb
    iexact Hbar
  ihave Hz := (zip_steps (fun k => iprop(sbAt c (pk c k) (P c) ∗ barPay (F := F) c (pk c k))) (fun k => iprop(
    (dutyTok ER (dCell c 0 (kf k)) 0 (0 : Dev nD) ∗ reached ER (dCell c 0 (kf k)) 0 ∗ dutyTok ER (dCell (pk c k) 1 c) 0 (0 : Dev nD))
    ∗ (dutyTok ER (dCell c 2 (kf k)) 0 (0 : Dev nD) ∗ reached ER (dCell c 2 (kf k)) 0 ∗ dutyTok ER (dCell (pk c k) 3 c) 0 (0 : Dev nD))))) $$ [Hz Htok]
  · isplitl [Hz]; · iexact Hz
    iexact Htok
  ihave Hz := (show (bigSep (Finset.Ico 1 16) _ : sProp 𝕄) ⊢ bigSep (Finset.Ico 1 16) _ from bigSep_mono fun k _ => step_start P c k) $$ Hz
  ihave Hz := (unzip_steps _ _) $$ Hz
  icases Hz with ⟨Hb, Hd⟩
  isplitl [Hb HO]
  · isplitl [Hb]; · iexact Hb
    isplitl; · iexact HO
    iempintro
  isplitl [Hown]; · iexact Hown
  iexact Hd

/-- What the waits on one array handed over, apart from the positions. -/
theorem got_open (a : Fin 4) (idx : ℕ → Fin 16) (Φ : ℕ → sProp 𝕄) (h : ∀ k, k < 16 → dmaPay P G c a.val (idx k).val = Φ k) :
    got P G c a idx ⊢ iprop(bigSep (Finset.Ico 1 16) Φ ∗ pos1 (F := F) c a idx) := by
  unfold got pos1
  refine (unzip_steps _ _).trans ?_
  rw [show bigSep (Finset.Ico 1 16) (fun k => dmaPay P G c a.val (idx k).val) = bigSep (Finset.Ico 1 16) Φ from
    bigSep_congr fun k hk => h k (Finset.mem_Ico.mp hk).2]

/-- What device `c` holds when its waits are over. -/
def finished : sProp 𝕄 := iprop(ow c 0 ∗ whole c cc0_scratch2 G ∗ whole c cc0_scratch0 (P c)
  ∗ bigSep (Finset.Ico 1 16) (fun k => slotAt c (pk c k) (landed P c))
  ∗ pos1 (F := F) c 0 kf ∗ pos1 (F := F) c 1 (pk c) ∗ pos1 (F := F) c 2 kf ∗ pos1 (F := F) c 3 (pk c))

theorem exchanges_end {R : sProp 𝕄} :
    iprop(ctx P G K ∗ phW P G c 2 kf 0 16 ∗ (got P G c 0 kf ∗ got P G c 3 (pk c) ∗ got P G c 1 (pk c) ∗ sbAt c c (P c) ∗ R))
      ⊢ iprop(ctx P G K ∗ finished P G c ∗ R) := by
  iintro ⟨Hc, HW, H0, H3, H1, Hs, HR⟩
  ihave HW := (waits_end P G c 2 kf 0) $$ HW
  icases HW with ⟨HO, H2⟩
  ihave H0 := (got_open P G c 0 kf (fun k => sbAt c (pk c k) (P c)) fun k h => dmaPay0 P G c h) $$ H0
  ihave H1 := (got_open P G c 1 (pk c) (fun k => slotAt c (pk c k) (landed P c)) fun k _ => dmaPay1 P G c (pk c k)) $$ H1
  ihave H2 := (got_open P G c 2 kf (fun k => gbAt c c (qk k) G) fun k h => dmaPay2 P G c h) $$ H2
  ihave H3 := (got_open P G c 3 (pk c) (fun k => gbAt c (pk c k) fullShare G) fun k _ => dmaPay3 P G c (pk c k)) $$ H3
  icases H0 with ⟨H0, P0⟩
  icases H1 with ⟨H1, P1⟩
  icases H2 with ⟨H2, P2⟩
  icases H3 with ⟨H3, P3⟩
  isplitl [Hc]; · iexact Hc
  isplitr [HR]
  · unfold finished
    rw [gb_steps, sb_steps, own_shares]
    isplitl [HO]; · iexact HO
    isplitl [H2 H3]
    · isplitl [H2]; · iexact H2
      iexact H3
    isplitl [H0 Hs]
    · isplitl [Hs]; · iexact Hs
      iexact H0
    isplitl [H1]; · iexact H1
    isplitl [P0]; · iexact P0
    isplitl [P1]; · iexact P1
    isplitl [P2]; · iexact P2
    iexact P3
  iexact HR

/-- The load of the gathered buffer. -/
theorem load_all {A R : sProp 𝕄} {hb} {hl} {Q : _ → sProp 𝕄} (hk : iprop(A ∗ finished P G c ∗ R) ⊢ Q G) :
    iprop(A ∗ finished P G c ∗ R) ⊢ WP c (Prog.lift (.load gbM (Rect.unit (s := S256x512) ![0, 0] S256x512.size hb).toLoadRect hl)) Q := by
  refine load_step (F := F) c (m := gbM) (S := Finset.univ) (q := fullShare) (f := G) (Finset.subset_univ _) ?_
    (hk.trans (Entails.of_eq (congrArg Q (Memref.readAt_unit_zero (Elt F) cc0_scratch2 (by funext a; match a with | 0 => rfl | 1 => rfl) hb G).symm)))
  unfold finished
  iintro ⟨HA, ⟨H1, H2, H3⟩, HR⟩
  isplitl [H2]; · iexact H2
  iintro H2
  isplitl [HA]; · iexact HA
  isplitr [HR]
  · isplitl [H1]; · iexact H1
    isplitl [H2]; · iexact H2
    iexact H3
  iexact HR

end

/-- The send buffer brought beside the staged inputs. -/
theorem front_sb {W C B S R : sProp 𝕄} : iprop(W ∗ C ∗ B ∗ (S ∗ R)) ⊢ iprop(W ∗ S ∗ (C ∗ B ∗ R)) := by
  iintro ⟨HW, HC, HB, HS, HR⟩
  isplitl [HW]; · iexact HW
  isplitl [HS]; · iexact HS
  isplitl [HC]; · iexact HC
  isplitl [HB]; · iexact HB
  iexact HR

section

variable (P : Dev nD → Vec F S256x512 .bf16) (G : Vec F S256x512 .bf16) (K : GSem nD τ sig → ℕ) (c : Dev nD)

/-- The first exchange is about to start. -/
theorem to_sends1 {W A C1 Gb C3 A0 A2 R : sProp 𝕄} {w : Vec F S256x512 .bf16} (hw : w = P c) :
    iprop(W ∗ whole c cc0_scratch0 w ∗ (ctx P G K ∗ (bigSep (Finset.Ico 1 16) (fun k => barPay (F := F) c (pk c k)) ∗ ow c (ow3 c 1 + ow1 c 1) ∗ A)
        ∗ (toks (F := F) c ∗ C1 ∗ Gb ∗ C3 ∗ A0 ∗ A2 ∗ R)))
      ⊢ iprop(ctx P G K ∗ phB P c 1 ∗ (sbAt c c (P c) ∗ C1 ∗ (Gb ∗ dests (F := F) c ∗ C3 ∗ A0 ∗ A2 ∗ (A ∗ W ∗ R)))) := by
  rw [hw]
  iintro ⟨HW, Hs, Hc, ⟨Hb, HO, HA⟩, Ht, H1, Hg, H3, Ha0, Ha2, HR⟩
  ihave Hx := (exchanges_start P c) $$ [Hs Hb HO Ht]
  · isplitl [Hs]; · iexact Hs
    isplitl [Hb]; · iexact Hb
    isplitl [HO]; · iexact HO
    iexact Ht
  icases Hx with ⟨HB, Hs, Hd⟩
  isplitl [Hc]; · iexact Hc
  isplitl [HB]; · iexact HB
  isplitl [Hs]; · iexact Hs
  isplitl [H1]; · iexact H1
  isplitl [Hg]; · iexact Hg
  isplitl [Hd]; · iexact Hd
  isplitl [H3]; · iexact H3
  isplitl [Ha0]; · iexact Ha0
  isplitl [Ha2]; · iexact Ha2
  isplitl [HA]; · iexact HA
  isplitl [HW]; · iexact HW
  iexact HR

/-- Its own gathered rows brought forward; the rest of what the second exchange needs waits. -/
theorem to_reduce {A0 A2 C C0 C3 D G R S W : sProp 𝕄} :
    iprop(C ∗ W ∗ (S ∗ C0 ∗ (G ∗ D ∗ C3 ∗ A0 ∗ A2 ∗ R))) ⊢ iprop(C ∗ W ∗ (G ∗ (D ∗ (C3 ∗ (S ∗ (C0 ∗ A0) ∗ A2 ∗ R))))) := by
  iintro ⟨HC, HW, ⟨HS, HC0, ⟨HG, HD, HC3, HA0, HA2, HR⟩⟩⟩
  isplitl [HC]; · iexact HC
  isplitl [HW]; · iexact HW
  isplitl [HG]; · iexact HG
  isplitl [HD]; · iexact HD
  isplitl [HC3]; · iexact HC3
  isplitl [HS]; · iexact HS
  isplitl [HC0 HA0]
  · isplitl [HC0]; · iexact HC0
    iexact HA0
  isplitl [HA2]; · iexact HA2
  iexact HR

/-- The claims on the second exchange brought forward. -/
theorem to_sends2 {C C3 D G R : sProp 𝕄} :
    iprop(C ∗ D ∗ (G ∗ (C3 ∗ R))) ⊢ iprop(C ∗ D ∗ (C3 ∗ (G ∗ R))) := by
  iintro ⟨HC, HD, ⟨HG, ⟨HC3, HR⟩⟩⟩
  isplitl [HC]; · iexact HC
  isplitl [HD]; · iexact HD
  isplitl [HC3]; · iexact HC3
  isplitl [HG]; · iexact HG
  iexact HR

/-- The claims on the copies of the first exchange brought forward. -/
theorem to_waits {A2 C C0 C2 G R S W : sProp 𝕄} :
    iprop(C ∗ W ∗ (C2 ∗ (G ∗ (S ∗ C0 ∗ A2 ∗ R)))) ⊢ iprop(C ∗ W ∗ (C0 ∗ ((C2 ∗ A2) ∗ (G ∗ S ∗ R)))) := by
  iintro ⟨HC, HW, ⟨HC2, ⟨HG, ⟨HS, HC0, HA2, HR⟩⟩⟩⟩
  isplitl [HC]; · iexact HC
  isplitl [HW]; · iexact HW
  isplitl [HC0]; · iexact HC0
  isplitl [HC2 HA2]
  · isplitl [HC2]; · iexact HC2
    iexact HA2
  isplitl [HG]; · iexact HG
  isplitl [HS]; · iexact HS
  iexact HR

/-- The claims on the copies of the second exchange brought forward. -/
theorem to_sent2 {C C2 G R W : sProp 𝕄} :
    iprop(C ∗ W ∗ (G ∗ (C2 ∗ R))) ⊢ iprop(C ∗ W ∗ (C2 ∗ (G ∗ R))) := by
  iintro ⟨HC, HW, ⟨HG, ⟨HC2, HR⟩⟩⟩
  isplitl [HC]; · iexact HC
  isplitl [HW]; · iexact HW
  isplitl [HC2]; · iexact HC2
  isplitl [HG]; · iexact HG
  iexact HR

/-- Everything up to the stored result, on one device. -/
theorem run36 {f0 : Vec F S2x128x512 .bf16} {f1 : Vec F S512x256 .bf16} {f2 f3 : Vec F S2x4x128x64 .bf16} {f4 : Vec F S256x512 .bf16}
    {h0} {h1} {h2} {h3} {h4} {h5} {h6} {h7} {h8}
    {g0 g2 : Vec F S256x512 .bf16} {R : sProp 𝕄} (hP : P c = partialOf f0 f1 f2 f3 f4) (hG : G = gathered P)
    {Q : _ → sProp 𝕄} (hk : iprop(ctx P G K ∗ finished P G c ∗ (atPos ER (barCell c) 1 ∅ 0 ∗ wins c f0 f1 f2 f3 f4 ∗ R)) ⊢ Q (Gen.k0_pay30 G)) :
    iprop(ctx P G K ∗ phA c 1 ∗ (cred (tallyAt (barCell c) () 15) ∗ atPos ER (barCell c) 0 ∅ 0) ∗ wins c f0 f1 f2 f3 f4
        ∗ (whole c cc0_scratch0 g0 ∗ toks (F := F) c ∗ (creds c 1 (pk c) ∗ ats c 1 (pk c)) ∗ gbAt c c fullShare g2
          ∗ (creds c 3 (pk c) ∗ ats c 3 (pk c)) ∗ ats c 0 kf ∗ ats c 2 kf ∗ R))
      ⊢ WP c (k0_part36 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6) Q := by
  rw [Gen.k0_part36_eq_skeleton]; unfold Gen.k0_part36_skel; dsimp only
  refine then_step c (piece1 P G K c fun w2 w24 => ?_)
  dsimp only
  refine then_step c (piece2 P G K c fun w48 => ?_)
  dsimp only
  refine then_step c (piece3 P G K c ?_)
  dsimp only
  refine then_step c (piece4 c ?_)
  dsimp only
  refine then_step c (piece5 c (front_sb.trans ?_))
  dsimp only
  refine then_step c (piece6 c ?_)
  dsimp only
  refine then_step c (piece7 c ?_)
  dsimp only
  refine then_step c (piece8 c ?_)
  rw [two_halves]
  refine (to_sends1 P G K c hP.symm).trans ?_
  refine then_step c (piece9 P G K c fun _ => ?_)
  refine then_step c (piece10 P G K c ?_)
  refine then_step c (piece11 P G K c ?_)
  refine then_step c (piece12 P G K c fun _ => ?_)
  dsimp only
  refine then_step c (piece13 P G K c fun _ => ?_)
  refine then_step c (piece14 P G K c fun _ => to_reduce.trans ?_)
  dsimp only
  refine then_step c (piece15 P G K c fun _ => ?_)
  dsimp only
  refine then_step c (piece16 P G K c ?_)
  refine then_step c (piece17 P G K c fun _ _ => ?_)
  dsimp only
  refine then_step c (piece18 P G K c fun _ => ?_)
  dsimp only
  refine then_step c (piece19 P G K c ?_)
  dsimp only
  refine then_step c (piece20 P G K c fun _ => ?_)
  dsimp only
  refine then_step c (piece21 P G K c hG (to_sends2.trans ?_))
  refine then_step c (piece22 P G K c fun _ => ?_)
  dsimp only
  refine then_step c (piece23 P G K c ?_)
  refine then_step c (piece24 P G K c ?_)
  refine then_step c (piece25 P G K c fun _ => ?_)
  refine then_step c (piece26 P G K c fun _ => to_waits.trans ?_)
  dsimp only
  refine then_step c (piece27 P G K c ?_)
  refine then_step c (piece28 P G K c ?_)
  refine then_step c (piece29 P G K c ?_)
  refine then_step c (piece30 P G K c ?_)
  refine then_step c (piece31 P G K c (to_sent2.trans ?_))
  refine then_step c (piece32 P G K c ?_)
  refine then_step c (piece33 P G K c ?_)
  refine then_step c (piece34 P G K c ?_)
  refine then_step c (piece35 P G K c ?_)
  refine then_step c (sent2 P G K c 13 (N_gb _ (Gen.k0_off8_eq c) _ _) rfl ?_)
  refine then_step c (sent2 P G K c 14 (N_gb _ (Gen.k0_off8_eq c) _ _) rfl ((exchanges_end P G K c).trans ?_))
  refine then_step c (load_all P G c ?_)
  exact done_step c hk

end

end Cert.Talk

end
-- ==== Proof.Cells.lean ====
/-
  The transfer cells of one device, opened when the kernel is entered and closed again before it is left.
-/
module

public import proofs.«01_k».proof.Proof.Run
public import Idealize.ShloMosaic.Lib.Rounds.Family

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A family over sixteen numbers is its member at zero and the family over the steps. -/
theorem all_steps (Φ : Fin 16 → sProp 𝕄) : bigSep Finset.univ Φ = iprop(Φ 0 ∗ bigSep (Finset.Ico 1 16) fun k => Φ (kf k)) := by
  rw [all_devs (0 : Dev nD) Φ]
  have h : ∀ k, Φ (pk (0 : Dev nD) k) = Φ (kf k) := fun k => congrArg Φ (Fin.ext (by show (0 + k) % 16 = k % 16; rw [Nat.zero_add]))
  rw [show (bigSep (Finset.Ico 1 16) fun k => Φ (pk (0 : Dev nD) k)) = bigSep (Finset.Ico 1 16) fun k => Φ (kf k) from
    bigSep_congr fun k _ => h k]

/-- A family over four is its four members. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

section

variable (P : Dev nD → Vec F S256x512 .bf16) (G : Vec F S256x512 .bf16) (K : GSem nD τ sig → ℕ) (c : Dev nD)

/-- A family over the transfer cells of device `c`: for each array the cell that is not used, then the fifteen that are. -/
theorem cells_split (Φ : Fin 4 → Fin 16 → sProp 𝕄) :
    (bigSep Finset.univ fun x : Fin 4 × Fin 16 => Φ x.1 x.2)
      = iprop((Φ 0 0 ∗ bigSep (Finset.Ico 1 16) fun k => Φ 0 (kf k)) ∗ (Φ 1 c ∗ bigSep (Finset.Ico 1 16) fun k => Φ 1 (pk c k))
        ∗ (Φ 2 0 ∗ bigSep (Finset.Ico 1 16) fun k => Φ 2 (kf k)) ∗ (Φ 3 c ∗ bigSep (Finset.Ico 1 16) fun k => Φ 3 (pk c k))) := by
  rw [bigSep_univ_prod, four, all_steps, all_devs c, all_steps, all_devs c]

/-- The four cells of device `c` that nothing ever uses. -/
def idle : sProp 𝕄 := iprop(atPos ER (dCell c 0 0) 0 ∅ 0 ∗ atPos ER (dCell c 1 c) 0 ∅ 0 ∗ atPos ER (dCell c 2 0) 0 ∅ 0 ∗ atPos ER (dCell c 3 c) 0 ∅ 0)

/-- The evidence that fifteen cells of one array are open. -/
def rch (a : Fin 4) (idx : ℕ → Fin 16) : sProp 𝕄 := bigSep (Finset.Ico 1 16) fun k => reached ER (dCell c a (idx k)) 0

/-- Entering the kernel: the device's transfer cells are opened. -/
theorem open_all :
    iprop(ctx P G K ∗ (bigSep Finset.univ fun x : Fin 4 × Fin 16 => openTok ER (dCell c x.1 x.2))
        ∗ (bigSep Finset.univ fun x : Fin 4 × Fin 16 => semVal (dCell c x.1 x.2) 0))
      ⊢ (|={Set.univ}=> iprop(idle (F := F) c ∗ (ats c 0 kf ∗ ats c 1 (pk c) ∗ ats c 2 kf ∗ ats c 3 (pk c))
          ∗ (rch (F := F) c 0 kf ∗ rch (F := F) c 1 (pk c) ∗ rch (F := F) c 2 kf ∗ rch (F := F) c 3 (pk c))) : sProp 𝕄) := by
  iintro ⟨#Hc, Ho, Hs⟩
  ihave Ho := (show iprop(ctx P G K ∗ bigSep Finset.univ fun x : Fin 4 × Fin 16 => openTok ER (dCell c x.1 x.2))
      ⊢ bigSep Finset.univ fun x : Fin 4 × Fin 16 => iprop(cellInv ER (rd P G) (K (dCell c x.1 x.2)) (dCell c x.1 x.2) ∗ openTok ER (dCell c x.1 x.2))
    from bigSep_with_persistent fun x _ => BI.sep_mono_l (ctx_dma P G K c x.1 x.2)) $$ [Ho]
  · isplitr; · iexact Hc
    iexact Ho
  imod (cells_open (E := ER) (Rd := rd P G) (Es := Set.univ) Finset.univ (fun x : Fin 4 × Fin 16 => dCell c x.1 x.2) (fun x => K (dCell c x.1 x.2))
    (fun x _ => Set.mem_univ _)) $$ [Ho Hs] with H
  · isplitl [Ho]; · iexact Ho
    iexact Hs
  imodintro
  ihave H := (Entails.of_eq (show (bigSep Finset.univ fun x : Fin 4 × Fin 16 => iprop(atPos ER (dCell c x.1 x.2) 0 ∅ 0 ∗ reached ER (dCell c x.1 x.2) 0) : sProp 𝕄)
      = iprop((bigSep Finset.univ fun x : Fin 4 × Fin 16 => atPos ER (dCell c x.1 x.2) 0 ∅ 0) ∗ bigSep Finset.univ fun x : Fin 4 × Fin 16 => reached ER (dCell c x.1 x.2) 0)
    from BI.bigSep_sep _ _ _)) $$ H
  icases H with ⟨Ha, Hr⟩
  ihave Ha := (Entails.of_eq (cells_split c fun a i => atPos ER (dCell c a i) 0 ∅ 0)) $$ Ha
  ihave Hr := (Entails.of_eq (cells_split c fun a i => reached ER (dCell c a i) 0)) $$ Hr
  icases Ha with ⟨⟨I0, A0⟩, ⟨I1, A1⟩, ⟨I2, A2⟩, ⟨I3, A3⟩⟩
  icases Hr with ⟨⟨-, R0⟩, ⟨-, R1⟩, ⟨-, R2⟩, ⟨-, R3⟩⟩
  unfold idle ats rch
  isplitl [I0 I1 I2 I3]
  · isplitl [I0]; · iexact I0
    isplitl [I1]; · iexact I1
    isplitl [I2]; · iexact I2
    iexact I3
  isplitl [A0 A1 A2 A3]
  · isplitl [A0]; · iexact A0
    isplitl [A1]; · iexact A1
    isplitl [A2]; · iexact A2
    iexact A3
  isplitl [R0]; · iexact R0
  isplitl [R1]; · iexact R1
  isplitl [R2]; · iexact R2
  iexact R3

/-- The round at which a transfer cell ends: one if it was used. -/
def lastR (a : Fin 4) (i : Fin 16) : ℕ := if used c a.val i.val then 1 else 0

theorem lastR_used {a : Fin 4} {i : Fin 16} (h : used c a.val i.val) : lastR c a i = 1 := if_pos h
theorem lastR_idle {a : Fin 4} {i : Fin 16} (h : ¬used c a.val i.val) : lastR c a i = 0 := if_neg h

/-- From its last round on a cell has no duty. -/
theorem no_duty (a : Fin 4) (i : Fin 16) (r : ℕ) (h : lastR c a i ≤ r) : (rd P G).duties (dCell c a i) r = ∅ := by
  by_cases hu : used c a.val i.val
  · rw [lastR_used c hu] at h; exact duties_later P G _ r h
  · rcases Nat.eq_zero_or_pos r with rfl | hr
    · rw [duties_dma, if_neg hu]
    · exact duties_later P G _ r hr

theorem idle_cells : ¬used c 0 (0 : Fin 16).val ∧ ¬used c 1 c.val ∧ ¬used c 2 (0 : Fin 16).val ∧ ¬used c 3 c.val :=
  ⟨fun h => by unfold used at h; rw [if_pos (.inl rfl)] at h; exact h rfl, fun h => by unfold used at h; rw [if_neg (by decide)] at h; exact h rfl,
   fun h => by unfold used at h; rw [if_pos (.inr rfl)] at h; exact h rfl, fun h => by unfold used at h; rw [if_neg (by decide)] at h; exact h rfl⟩

/-- The positions after the kernel's waits, as one family. -/
theorem last_pos :
    iprop(idle (F := F) c ∗ pos1 (F := F) c 0 kf ∗ pos1 (F := F) c 1 (pk c) ∗ pos1 (F := F) c 2 kf ∗ pos1 (F := F) c 3 (pk c))
      ⊢ (bigSep Finset.univ fun x : Fin 4 × Fin 16 => atPos ER (dCell c x.1 x.2) (lastR c x.1 x.2) ∅ 0 : sProp 𝕄) := by
  rw [cells_split c fun a i => atPos ER (dCell c a i) (lastR c a i) ∅ 0]
  have e : ∀ (a : Fin 4) (idx : ℕ → Fin 16), (∀ k, 1 ≤ k → k < 16 → used c a.val (idx k).val) →
      (bigSep (Finset.Ico 1 16) fun k => atPos ER (dCell c a (idx k)) (lastR c a (idx k)) ∅ 0 : sProp 𝕄) = pos1 (F := F) c a idx := fun a idx h =>
    bigSep_congr fun k hk => by
      rw [lastR_used c (h k (Finset.mem_Ico.mp hk).1 (Finset.mem_Ico.mp hk).2)]
  rw [e 0 kf (fun k h1 h2 => used0 c h1 h2), e 1 (pk c) (fun k h1 h2 => used1 c _ (pk_ne c h1 h2)), e 2 kf (fun k h1 h2 => used2 c h1 h2),
    e 3 (pk c) (fun k h1 h2 => used3 c _ (pk_ne c h1 h2))]
  rw [lastR_idle c (idle_cells c).1, lastR_idle c (idle_cells c).2.1, lastR_idle c (idle_cells c).2.2.1, lastR_idle c (idle_cells c).2.2.2]
  unfold idle
  iintro ⟨⟨I0, I1, I2, I3⟩, P0, P1, P2, P3⟩
  isplitl [I0 P0]
  · isplitl [I0]; · iexact I0
    iexact P0
  isplitl [I1 P1]
  · isplitl [I1]; · iexact I1
    iexact P1
  isplitl [I2 P2]
  · isplitl [I2]; · iexact I2
    iexact P2
  isplitl [I3]; · iexact I3
  iexact P3

/-- Leaving the kernel: every counter of the device's transfer cells, and its barrier's, is handed back at zero. -/
theorem close_all :
    iprop(ctx P G K ∗ (idle (F := F) c ∗ pos1 (F := F) c 0 kf ∗ pos1 (F := F) c 1 (pk c) ∗ pos1 (F := F) c 2 kf ∗ pos1 (F := F) c 3 (pk c))
        ∗ atPos ER (barCell c) 1 ∅ 0)
      ⊢ (|={Set.univ}=> iprop((bigSep Finset.univ fun x : Fin 4 × Fin 16 => semVal (dCell c x.1 x.2) 0) ∗ semVal (barCell c) 0) : sProp 𝕄) := by
  iintro ⟨#Hc, Ha, Hb⟩
  ihave Ha := (last_pos (F := F) c) $$ Ha
  ihave Ha := (show iprop(ctx P G K ∗ bigSep Finset.univ fun x : Fin 4 × Fin 16 => atPos ER (dCell c x.1 x.2) (lastR c x.1 x.2) ∅ 0)
      ⊢ bigSep Finset.univ fun x : Fin 4 × Fin 16 => iprop(cellInv ER (rd P G) (K (dCell c x.1 x.2)) (dCell c x.1 x.2)
          ∗ atPos ER (dCell c x.1 x.2) (lastR c x.1 x.2) ∅ 0)
    from bigSep_with_persistent fun x _ => BI.sep_mono_l (ctx_dma P G K c x.1 x.2)) $$ [Ha]
  · isplitr; · iexact Hc
    iexact Ha
  imod (cells_close (E := ER) (Rd := rd P G) (Es := Set.univ) Finset.univ (fun x : Fin 4 × Fin 16 => dCell c x.1 x.2) (fun x => K (dCell c x.1 x.2))
    (fun x _ => Set.mem_univ _) (fun x _ => id) (fun x => lastR c x.1 x.2) (fun x _ r hr => no_duty P G c x.1 x.2 r hr)) $$ [Ha] with Ha
  · iexact Ha
  imod (cell_close ER (rd P G) (Set.mem_univ (K (barCell c))) id (fun r hr => duties_later P G (barCell c) r hr)) $$ [Hb] with Hb
  · isplitr; · iapply (ctx_bar P G K c); iexact Hc
    iexact Hb
  imodintro
  isplitl [Ha]; · iexact Ha
  iexact Hb

end

end Cert.Talk

end
-- ==== Proof.Body.lean ====
/-
  The kernel on one device, from what it is entered with to what it leaves.
-/
module

public import proofs.«01_k».proof.Proof.Cells

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Nothing left to run, after a last update of the ghost state. -/
theorem last_step {α : Type} (c : Dev nD) {a : α} {A : sProp 𝕄} {Q : α → sProp 𝕄} (h : A ⊢ |={Set.univ}=> Q a) :
    A ⊢ WP c (pure a : Prog (TpuEff nD τ sig (Elt F) Λ₀ .tc) α) Q := by
  unfold WP; rw [wp_pure]; exact h

/-- The rights to pay the barriers of the other devices. -/
def btoks (c : Dev nD) : sProp 𝕄 := bigSep (Finset.Ico 1 16) fun k => dutyTok ER (barCell (pk c k)) 0 c

/-- A scratch buffer whole, at contents that do not matter. -/
abbrev anyOf (c : Dev nD) (b : Ref sig .tc) : sProp 𝕄 := iprop(∃ f : Buf (Elt F) ((c : Thread nD τ).loc b), ((c : Thread nD τ).loc b) ↦{fullShare} f)

section

variable (P : Dev nD → Vec F S256x512 .bf16) (G : Vec F S256x512 .bf16) (K : GSem nD τ sig → ℕ) (c : Dev nD)

/-- What the conversation holds on device `c` when the kernel starts, its cells open. -/
def begun : sProp 𝕄 := iprop(∃ K, ctx P G K ∗ (cred (tallyAt (barCell c) () 15) ∗ atPos ER (barCell c) 0 ∅ 0) ∗ btoks (F := F) c ∗ toks (F := F) c
  ∗ (rch (F := F) c 1 (pk c) ∗ rch (F := F) c 3 (pk c)) ∗ (creds c 1 (pk c) ∗ ats c 1 (pk c)) ∗ (creds c 3 (pk c) ∗ ats c 3 (pk c))
  ∗ ats c 0 kf ∗ ats c 2 kf ∗ idle (F := F) c)

/-- The counters handed back. -/
def counters : sProp 𝕄 := iprop((bigSep Finset.univ fun x : Fin 4 × Fin 16 => semVal (dCell c x.1 x.2) 0) ∗ semVal (barCell c) 0)

/-- One step's share of what the barriers are paid with. -/
theorem step_pay (k : ℕ) (f1 : Vec F S16x16x512 .bf16) (f2 : Vec F S256x512 .bf16) :
    iprop(dutyTok ER (barCell (pk c k)) 0 c ∗ slotAt c (pk c k) f1 ∗ gbAt c (pk c k) fullShare f2
        ∗ reached ER (dCell c 1 (pk c k)) 0 ∗ reached ER (dCell c 3 (pk c k)) 0)
      ⊢ (iprop(dutyTok ER (barCell (pk c k)) 0 c ∗ barPay (F := F) (pk c k) c) : sProp 𝕄) := by
  unfold barPay
  iintro ⟨Ht, Hs, Hg, H1, H3⟩
  isplitl [Ht]; · iexact Ht
  isplitl [Hs]; · iexists f1; iexact Hs
  isplitl [Hg]; · iexists f2; iexact Hg
  isplitl [H1]; · iexact H1
  iexact H3

/-- What the barrier hands to each other device: that device's slot and rows, and that the cells are open. -/
theorem phA_made (f1 : Vec F S16x16x512 .bf16) (f2 : Vec F S256x512 .bf16) :
    iprop(btoks (F := F) c ∗ (rch (F := F) c 1 (pk c) ∗ rch (F := F) c 3 (pk c)) ∗ (bigSep (Finset.Ico 1 16) fun k => slotAt c (pk c k) f1)
        ∗ (bigSep (Finset.Ico 1 16) fun k => gbAt c (pk c k) fullShare f2) ∗ ow c (O₀ c))
      ⊢ (phA c 1 : sProp 𝕄) := by
  unfold phA btoks rch O₀
  iintro ⟨Ht, ⟨R1, R3⟩, Hs, Hg, HO⟩
  isplitr [HO]
  · ihave H := (zip_steps _ _) $$ [R1 R3]
    · isplitl [R1]; · iexact R1
      iexact R3
    ihave H := (zip_steps _ _) $$ [Hg H]
    · isplitl [Hg]; · iexact Hg
      iexact H
    ihave H := (zip_steps _ _) $$ [Hs H]
    · isplitl [Hs]; · iexact Hs
      iexact H
    ihave H := (zip_steps _ _) $$ [Ht H]
    · isplitl [Ht]; · iexact Ht
      iexact H
    ihave H := (show (bigSep (Finset.Ico 1 16) _ : sProp 𝕄) ⊢ bigSep (Finset.Ico 1 16) _ from
      bigSep_mono fun k _ => step_pay (F := F) c k f1 f2) $$ H
    iexact H
  iexact HO

theorem slot_any (d : Dev nD) (p : Fin 16) (f : Vec F S16x16x512 .bf16) : (slotAt d p f : sProp 𝕄) ⊢ iprop(∃ f, slotAt (F := F) d p f) := by
  iintro H; iexists f; iexact H

/-- The landing buffer whole again, from its own slot and those the others wrote. -/
theorem slots_back (f1 : Vec F S16x16x512 .bf16) :
    iprop(slotAt c c f1 ∗ bigSep (Finset.Ico 1 16) fun k => slotAt c (pk c k) (landed P c)) ⊢ (anyOf (F := F) c cc0_scratch1 : sProp 𝕄) := by
  refine BIBase.Entails.trans ?_ (slot_join c f1)
  rw [all_devs c]
  exact BI.sep_mono (slot_any c c f1) (bigSep_mono fun k _ => slot_any c (pk c k) (landed P c))

/-- What device `c` holds beside its staged inputs and its result when the kernel returns. -/
def over : sProp 𝕄 := iprop(ow c 0 ∗ (anyOf (F := F) c cc0_scratch0 ∗ anyOf (F := F) c cc0_scratch1 ∗ anyOf (F := F) c cc0_scratch2) ∗ counters (F := F) c)

theorem leave (f1 : Vec F S16x16x512 .bf16) :
    iprop(ctx P G K ∗ finished P G c ∗ atPos ER (barCell c) 1 ∅ 0 ∗ slotAt c c f1 ∗ idle (F := F) c) ⊢ (|={Set.univ}=> over (F := F) c : sProp 𝕄) := by
  unfold finished over counters
  iintro ⟨#Hc, ⟨HO, H2, H0, Hs, P0, P1, P2, P3⟩, Hb, Hown, Hi⟩
  imod (close_all P G K c) $$ [P0 P1 P2 P3 Hi Hb] with ⟨Hd, Hb⟩
  · isplitr; · iexact Hc
    isplitr [Hb]
    · isplitl [Hi]; · iexact Hi
      isplitl [P0]; · iexact P0
      isplitl [P1]; · iexact P1
      isplitl [P2]; · iexact P2
      iexact P3
    iexact Hb
  ihave Hs := (slots_back P c f1) $$ [Hown Hs]
  · isplitl [Hown]; · iexact Hown
    iexact Hs
  imodintro
  isplitl [HO]; · iexact HO
  isplitr [Hd Hb]
  · isplitl [H0]; · iexists (P c); iexact H0
    isplitl [Hs]; · iexact Hs
    iexists G; iexact H2
  isplitl [Hd]; · iexact Hd
  iexact Hb

/-- The load of the result window before it is overwritten. -/
theorem load_out {f5 : Vec F S2x128x512 .f32} {A R : sProp 𝕄} {r : LoadRect S2x128x512} {hl} {Q : _ → sProp 𝕄}
    (hk : iprop(A ∗ whole c cc0_stg5_0 f5 ∗ R) ⊢ Q ((Memref.whole cc0_stg5_0).view.readAt (Elt F) r f5)) :
    iprop(A ∗ whole c cc0_stg5_0 f5 ∗ R) ⊢ WP c (Prog.lift (.load (Memref.whole cc0_stg5_0) r hl)) Q := by
  refine load_step (F := F) c (m := Memref.whole cc0_stg5_0) (S := Finset.univ) (q := fullShare) (f := f5) (Finset.subset_univ _) ?_ hk
  iintro ⟨HA, Hs, HR⟩
  isplitl [Hs]; · iexact Hs
  iintro Hs
  isplitl [HA]; · iexact HA
  isplitl [Hs]; · iexact Hs
  iexact HR

/-- The store of the result. -/
theorem store_out {f5 w : Vec F S2x128x512 .f32} {A R : sProp 𝕄} {hb} {hx} {hm} {Q : PUnit → sProp 𝕄}
    (hk : iprop(A ∗ whole c cc0_stg5_0 w ∗ R) ⊢ Q ⟨⟩) :
    iprop(A ∗ whole c cc0_stg5_0 f5 ∗ R)
      ⊢ WP c (Prog.lift (.store (Memref.whole cc0_stg5_0) (Rect.unit (s := S2x128x512) ![0, 0, 0] S2x128x512.size hb) w Finset.univ hx hm)) Q := by
  refine store_step (F := F) c (m := Memref.whole cc0_stg5_0) (r := Rect.unit (s := S2x128x512) ![0, 0, 0] S2x128x512.size hb)
    (S := Finset.univ) (f := f5) (B := iprop(A ∗ whole c cc0_stg5_0 w ∗ R)) (Finset.subset_univ _) ?_ hk
  rw [show ((Memref.whole cc0_stg5_0).access (Rect.unit (s := S2x128x512) ![0, 0, 0] S2x128x512.size hb)).write (Elt F) f5 w Finset.univ = w from
    Memref.write_access_unit_zero_univ (Elt F) cc0_stg5_0 (by funext a; match a with | 0 => rfl | 1 => rfl | 2 => rfl) hb f5 w]
  iintro ⟨HA, Hs, HR⟩
  isplitl [Hs]; · iexact Hs
  iintro Hs
  isplitl [HA]; · iexact HA
  isplitl [Hs]; · iexact Hs
  iexact HR

/-- The kernel on device `c`. -/
theorem body_run {f0 : Vec F S2x128x512 .bf16} {f1 : Vec F S512x256 .bf16} {f2 f3 : Vec F S2x4x128x64 .bf16} {f4 : Vec F S256x512 .bf16}
    {f5 : Vec F S2x128x512 .f32} {h0} {h1} {h2} {h3} {h4} {h5} {h6} {h7} {h8}
    (hP : P c = partialOf f0 f1 f2 f3 f4) (hG : G = gathered P) :
    iprop(begun P G c ∗ ow c (O₀ c) ∗ wins c f0 f1 f2 f3 f4 ∗ whole c cc0_stg5_0 f5
        ∗ (anyOf (F := F) c cc0_scratch0 ∗ anyOf (F := F) c cc0_scratch1 ∗ anyOf (F := F) c cc0_scratch2))
      ⊢ WP c (cc0_body (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 sbM h6 r1M h7 gbM h8 cc0_scratch3 cc0_scratch4 cc0_scratch5 cc0_scratch6)
          (fun _ => iprop(over (F := F) c ∗ wins c f0 f1 f2 f3 f4 ∗ whole c cc0_stg5_0 (Gen.k0_pay30 G))) := by
  rw [Gen.cc0_body_eq_skeleton]; unfold Gen.cc0_body_skel
  unfold begun
  iintro ⟨⟨%K, #Hc, HB, Hbt, Ht, Hr, H1, H3, A0, A2, Hi⟩, HO, Hw, H5, ⟨%g0, S0⟩, ⟨%g1, S1⟩, ⟨%g2, S2⟩⟩
  ihave S1 := (Entails.of_eq (slot_steps c g1)) $$ S1
  ihave S2 := (Entails.of_eq (gb_steps c g2)) $$ S2
  icases S1 with ⟨S1o, S1⟩
  icases S2 with ⟨S2o, S2⟩
  ihave HA := (phA_made c g1 g2) $$ [Hbt Hr S1 S2 HO]
  · isplitl [Hbt]; · iexact Hbt
    isplitl [Hr]; · iexact Hr
    isplitl [S1]; · iexact S1
    isplitl [S2]; · iexact S2
    iexact HO
  iapply (then_step c (run36 P G K c (g0 := g0) (g2 := g2) (R := iprop(whole c cc0_stg5_0 f5 ∗ slotAt c c g1 ∗ idle (F := F) c)) hP hG ?_))
  · refine BIBase.Entails.trans (show _ ⊢ iprop((ctx P G K ∗ finished P G c ∗ atPos ER (barCell c) 1 ∅ 0 ∗ wins c f0 f1 f2 f3 f4) ∗ whole c cc0_stg5_0 f5
      ∗ (slotAt c c g1 ∗ idle (F := F) c)) from ?_) ?_
    · iintro ⟨Hc, Hf, Hb, Hw, H5, Hs, Hi⟩
      isplitr [H5 Hs Hi]
      · isplitl [Hc]; · iexact Hc
        isplitl [Hf]; · iexact Hf
        isplitl [Hb]; · iexact Hb
        iexact Hw
      isplitl [H5]; · iexact H5
      isplitl [Hs]; · iexact Hs
      iexact Hi
    refine then_step c (load_out c ?_)
    refine then_step c (store_out c ?_)
    refine last_step c ?_
    iintro ⟨⟨Hc, Hf, Hb, Hw⟩, H5, Hs, Hi⟩
    imod (leave P G K c g1) $$ [Hc Hf Hb Hs Hi] with H
    · isplitl [Hc]; · iexact Hc
      isplitl [Hf]; · iexact Hf
      isplitl [Hb]; · iexact Hb
      isplitl [Hs]; · iexact Hs
      iexact Hi
    imodintro
    isplitl [H]; · iexact H
    isplitl [Hw]; · iexact Hw
    iexact H5
  isplitr; · iexact Hc
  isplitl [HA]; · iexact HA
  isplitl [HB]; · iexact HB
  isplitl [Hw]; · iexact Hw
  isplitl [S0]; · iexact S0
  isplitl [Ht]; · iexact Ht
  isplitl [H1]; · iexact H1
  isplitl [S2o]; · iexact S2o
  isplitl [H3]; · iexact H3
  isplitl [A0]; · iexact A0
  isplitl [A2]; · iexact A2
  isplitl [H5]; · iexact H5
  isplitl [S1o]; · iexact S1o
  iexact Hi

end

end Cert.Talk

end
-- ==== Proof.Data.lean ====
/-
  The kernel as the one call of the program: what its windows hold before and after, and that its body keeps that promise.
-/
module

public import proofs.«01_k».proof.Proof.Body
public import proofs.«01_k».proof.Proof.Gen.KernelIdeal.Points
public import proofs.«01_k».proof.Proof.Gen.KernelIdeal.Regions
public import Idealize.ShloMosaic.Lib.Pipeline.ValueKit

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F]

local notation "𝕄" => MT nD τ sig Unit (Elt F) ℕ UU ℕ

section

variable (m : (ℓ : Loc nD τ sig) → Buf (Elt F) ℓ)

/-- The staged inputs of device `c`: the activations, its columns of the query weights, its heads' keys and values, its rows
    of the output weights. -/
def inX (c : Dev nD) : Vec F S2x128x512 .bf16 := Gen.V1 m c main_arg0
def inWq (c : Dev nD) : Vec F S512x256 .bf16 := Gen.V1 m c main_arg1
def inK (c : Dev nD) : Vec F S2x4x128x64 .bf16 := Gen.V1 m c main_v15
def inV (c : Dev nD) : Vec F S2x4x128x64 .bf16 := Gen.V1 m c main_v16
def inWo (c : Dev nD) : Vec F S256x512 .bf16 := Gen.V1 m c main_arg4

/-- Each device's partial product, -/
def PP (c : Dev nD) : Vec F S256x512 .bf16 := partialOf (inX m c) (inWq m c) (inK m c) (inV m c) (inWo m c)
/-- the gathered sum of all of them, -/
def GG : Vec F S256x512 .bf16 := gathered (PP m)
/-- and the result every device stores. -/
def outV : Vec F S2x128x512 .f32 := Gen.k0_pay30 (GG m)

/-- The contents of the windows' arrays at entry. -/
def arrs (c : Dev nD) : (w : Fin cfg0.W) → Buf (Elt F) ((cfg0.win w).arr.view.loc (c.tc : Thread nD τ))
  | 0 => inX m c
  | 1 => inWq m c
  | 2 => inK m c
  | 3 => inV m c
  | 4 => inWo m c
  | 5 => Gen.V1 m c main_v17
  | ⟨_ + 6, h⟩ => absurd h (Nat.not_lt.2 (Nat.le_add_left _ _))

/-- The contents of the staging buffers after the body. -/
def afters (c : Dev nD) : (w : Fin cfg0.W) → Fin cfg0.N → (cfg0.win w).block.Idx → Elt F (cfg0.win w).elt
  | 0 => fun _ => inX m c
  | 1 => fun _ => inWq m c
  | 2 => fun _ => inK m c
  | 3 => fun _ => inV m c
  | 4 => fun _ => inWo m c
  | 5 => fun _ => outV m
  | ⟨_ + 6, h⟩ => absurd h (Nat.not_lt.2 (Nat.le_add_left _ _))

/-- The scratch buffers of device `c` and its generator register, at whatever they hold. -/
def scr (c : Dev nD) : sProp 𝕄 := iprop((anyOf (F := F) c cc0_scratch0 ∗ anyOf (F := F) c cc0_scratch1 ∗ anyOf (F := F) c cc0_scratch2) ∗ ∃ r, prngReg c r)

/-- The call's state before its one point, and after it. -/
def early (c : Dev nD) : sProp 𝕄 := iprop(begun (PP m) (GG m) c ∗ scr (F := F) c)
def late (c : Dev nD) : sProp 𝕄 := iprop(counters (F := F) c ∗ scr (F := F) c)

/-- The call's data on device `c`: before its one point it owes everything and its conversation has begun; after, nothing. -/
def dat0 (c : Dev nD) : Dat τ (Elt F) Unit ℕ UU ℕ cfg0 c where
  A := arrs m c
  after := afters m c
  Φ t := if t.val = 0 then early m c else late (F := F) c
  q _ := fullShare
  owed t := if t.val = 0 then O₀ c else 0

def pdats : (p : Fin 1) → (c : Dev nD) → Dat τ (Elt F) Unit ℕ UU ℕ (cfgs p) c := fun _ c => dat0 m c

theorem owed_zero (c : Dev nD) : (dat0 m c).owed 0 = O₀ c := by
  show (if ((0 : Fin (cfg0.N + 1)).val = 0) then O₀ c else 0) = O₀ c; exact if_pos rfl
theorem owed_first (c : Dev nD) : (dat0 m c).owed Gen.t0_0.castSucc = O₀ c := by
  show (if ((Gen.t0_0.castSucc : Fin (cfg0.N + 1)).val = 0) then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from Gen.N_0]; decide)]

theorem owesAt_first (c : Dev nD) : ((dat0 m c).owesAt () Gen.t0_0.castSucc : sProp 𝕄) ⊢ ow c (O₀ c) := by
  unfold Dat.owesAt Pipeline.owesWithin ow; rw [owed_first]
  iintro ⟨%W, -, HO⟩; iexists W; iexact HO
theorem owesAt_last (c : Dev nD) : (ow c 0 : sProp 𝕄) ⊢ (dat0 m c).owesAt () Gen.t0_0.succ := by
  unfold Dat.owesAt Pipeline.owesWithin Dat.bound ow
  rw [show (dat0 m c).owed Gen.t0_0.succ = 0 from owed_last m c, show (dat0 m c).recorded Gen.t0_0.succ = Set.univ from rfl]
  iintro ⟨%W, HO⟩; iexists W
  isplitr; · ipureintro; exact fun _ _ => Or.inl trivial
  iexact HO

/-- Input window 0 is its whole array. -/
theorem block_in0 (c : Dev nD) (d) : (dat0 m c).before 0 Gen.t0_0 d = inX m c := by
  rw [(dat0 m c).before_fetched 0 Gen.t0_0 (Gen.fetch0_0 _)]
  funext y
  show inX m c ((win0_0.blk Gen.t0_0).view.emb y) = inX m c y
  congr 1
  blk_ext []
  all_goals (show 0 * _ + _ = _; rw [Nat.zero_mul, Nat.zero_add])

/-- Input window 1 is its whole array. -/
theorem block_in1 (c : Dev nD) (d) : (dat0 m c).before 1 Gen.t0_0 d = inWq m c := by
  rw [(dat0 m c).before_fetched 1 Gen.t0_0 (Gen.fetch0_1 _)]
  funext y
  show inWq m c ((win0_1.blk Gen.t0_0).view.emb y) = inWq m c y
  congr 1
  blk_ext []
  all_goals (show 0 * _ + _ = _; rw [Nat.zero_mul, Nat.zero_add])

/-- Input window 2 is its whole array. -/
theorem block_in2 (c : Dev nD) (d) : (dat0 m c).before 2 Gen.t0_0 d = inK m c := by
  rw [(dat0 m c).before_fetched 2 Gen.t0_0 (Gen.fetch0_2 _)]
  funext y
  show inK m c ((win0_2.blk Gen.t0_0).view.emb y) = inK m c y
  congr 1
  blk_ext []
  all_goals (show 0 * _ + _ = _; rw [Nat.zero_mul, Nat.zero_add])

/-- Input window 3 is its whole array. -/
theorem block_in3 (c : Dev nD) (d) : (dat0 m c).before 3 Gen.t0_0 d = inV m c := by
  rw [(dat0 m c).before_fetched 3 Gen.t0_0 (Gen.fetch0_3 _)]
  funext y
  show inV m c ((win0_3.blk Gen.t0_0).view.emb y) = inV m c y
  congr 1
  blk_ext []
  all_goals (show 0 * _ + _ = _; rw [Nat.zero_mul, Nat.zero_add])

/-- Input window 4 is its whole array. -/
theorem block_in4 (c : Dev nD) (d) : (dat0 m c).before 4 Gen.t0_0 d = inWo m c := by
  rw [(dat0 m c).before_fetched 4 Gen.t0_0 (Gen.fetch0_4 _)]
  funext y
  show inWo m c ((win0_4.blk Gen.t0_0).view.emb y) = inWo m c y
  congr 1
  blk_ext []
  all_goals (show 0 * _ + _ = _; rw [Nat.zero_mul, Nat.zero_add])

/-- The result array after the call is the stored result. -/
theorem arr_out (c : Dev nD) : (dat0 m c).arrAt 5 cfg0.N = outV m := by
  refine (dat0 m c).arrAt_eq_of_after_last 5 Gen.t0_0 (by decide +kernel) _ fun j => ?_
  blk_simp
  show outV m j = outV m _
  congr 1

theorem stage_in0 (c : Dev nD) (d) : (owns c (Gen.st0_0 Gen.t0_0) fullShare ((dat0 m c).before 0 Gen.t0_0 d) : sProp 𝕄)
    = whole c cc0_stg0_0 (inX m c) := by
  rw [block_in0]; exact owns_whole (c : Thread nD τ) cc0_stg0_0 fullShare _
theorem stage_end0 (c : Dev nD) : (owns c (Gen.st0_0 Gen.t0_0) fullShare ((dat0 m c).after 0 Gen.t0_0) : sProp 𝕄)
    = whole c cc0_stg0_0 (inX m c) := owns_whole (c : Thread nD τ) cc0_stg0_0 fullShare _
theorem stage_in1 (c : Dev nD) (d) : (owns c (Gen.st0_1 Gen.t0_0) fullShare ((dat0 m c).before 1 Gen.t0_0 d) : sProp 𝕄)
    = whole c cc0_stg1_0 (inWq m c) := by
  rw [block_in1]; exact owns_whole (c : Thread nD τ) cc0_stg1_0 fullShare _
theorem stage_end1 (c : Dev nD) : (owns c (Gen.st0_1 Gen.t0_0) fullShare ((dat0 m c).after 1 Gen.t0_0) : sProp 𝕄)
    = whole c cc0_stg1_0 (inWq m c) := owns_whole (c : Thread nD τ) cc0_stg1_0 fullShare _
theorem stage_in2 (c : Dev nD) (d) : (owns c (Gen.st0_2 Gen.t0_0) fullShare ((dat0 m c).before 2 Gen.t0_0 d) : sProp 𝕄)
    = whole c cc0_stg2_0 (inK m c) := by
  rw [block_in2]; exact owns_whole (c : Thread nD τ) cc0_stg2_0 fullShare _
theorem stage_end2 (c : Dev nD) : (owns c (Gen.st0_2 Gen.t0_0) fullShare ((dat0 m c).after 2 Gen.t0_0) : sProp 𝕄)
    = whole c cc0_stg2_0 (inK m c) := owns_whole (c : Thread nD τ) cc0_stg2_0 fullShare _
theorem stage_in3 (c : Dev nD) (d) : (owns c (Gen.st0_3 Gen.t0_0) fullShare ((dat0 m c).before 3 Gen.t0_0 d) : sProp 𝕄)
    = whole c cc0_stg3_0 (inV m c) := by
  rw [block_in3]; exact owns_whole (c : Thread nD τ) cc0_stg3_0 fullShare _
theorem stage_end3 (c : Dev nD) : (owns c (Gen.st0_3 Gen.t0_0) fullShare ((dat0 m c).after 3 Gen.t0_0) : sProp 𝕄)
    = whole c cc0_stg3_0 (inV m c) := owns_whole (c : Thread nD τ) cc0_stg3_0 fullShare _
theorem stage_in4 (c : Dev nD) (d) : (owns c (Gen.st0_4 Gen.t0_0) fullShare ((dat0 m c).before 4 Gen.t0_0 d) : sProp 𝕄)
    = whole c cc0_stg4_0 (inWo m c) := by
  rw [block_in4]; exact owns_whole (c : Thread nD τ) cc0_stg4_0 fullShare _
theorem stage_end4 (c : Dev nD) : (owns c (Gen.st0_4 Gen.t0_0) fullShare ((dat0 m c).after 4 Gen.t0_0) : sProp 𝕄)
    = whole c cc0_stg4_0 (inWo m c) := owns_whole (c : Thread nD τ) cc0_stg4_0 fullShare _
theorem stage_in5 (c : Dev nD) (d) : (owns c (Gen.st0_5 Gen.t0_0) fullShare ((dat0 m c).before 5 Gen.t0_0 d) : sProp 𝕄)
    = whole c cc0_stg5_0 ((dat0 m c).before 5 Gen.t0_0 d) := owns_whole (c : Thread nD τ) cc0_stg5_0 fullShare _
theorem stage_end5 (c : Dev nD) : (owns c (Gen.st0_5 Gen.t0_0) fullShare ((dat0 m c).after 5 Gen.t0_0) : sProp 𝕄)
    = whole c cc0_stg5_0 (outV m) := owns_whole (c : Thread nD τ) cc0_stg5_0 fullShare _

/-- The staged buffers before the body, in the run's words; -/
theorem stages_in (c : Dev nD) :
    iprop((∃ d, owns c (Gen.st0_0 Gen.t0_0) fullShare ((dat0 m c).before 0 Gen.t0_0 d)) ∗ (∃ d, owns c (Gen.st0_1 Gen.t0_0) fullShare ((dat0 m c).before 1 Gen.t0_0 d))
      ∗ (∃ d, owns c (Gen.st0_2 Gen.t0_0) fullShare ((dat0 m c).before 2 Gen.t0_0 d)) ∗ (∃ d, owns c (Gen.st0_3 Gen.t0_0) fullShare ((dat0 m c).before 3 Gen.t0_0 d))
      ∗ (∃ d, owns c (Gen.st0_4 Gen.t0_0) fullShare ((dat0 m c).before 4 Gen.t0_0 d)) ∗ (∃ d, owns c (Gen.st0_5 Gen.t0_0) fullShare ((dat0 m c).before 5 Gen.t0_0 d)))
      ⊢ (iprop(wins c (inX m c) (inWq m c) (inK m c) (inV m c) (inWo m c) ∗ ∃ f5, whole c cc0_stg5_0 f5) : sProp 𝕄) := by
  unfold wins
  iintro ⟨⟨%d0, H0⟩, ⟨%d1, H1⟩, ⟨%d2, H2⟩, ⟨%d3, H3⟩, ⟨%d4, H4⟩, ⟨%d5, H5⟩⟩
  ihave H0 := (Entails.of_eq (stage_in0 m c d0)) $$ H0
  ihave H1 := (Entails.of_eq (stage_in1 m c d1)) $$ H1
  ihave H2 := (Entails.of_eq (stage_in2 m c d2)) $$ H2
  ihave H3 := (Entails.of_eq (stage_in3 m c d3)) $$ H3
  ihave H4 := (Entails.of_eq (stage_in4 m c d4)) $$ H4
  ihave H5 := (Entails.of_eq (stage_in5 m c d5)) $$ H5
  isplitr [H5]
  · isplitl [H0]; · iexact H0
    isplitl [H1]; · iexact H1
    isplitl [H2]; · iexact H2
    isplitl [H3]; · iexact H3
    iexact H4
  iexists _; iexact H5

/-- and after it. -/
theorem stages_end (c : Dev nD) :
    iprop(wins c (inX m c) (inWq m c) (inK m c) (inV m c) (inWo m c) ∗ whole c cc0_stg5_0 (outV m))
      ⊢ (iprop(owns c (Gen.st0_0 Gen.t0_0) fullShare ((dat0 m c).after 0 Gen.t0_0) ∗ owns c (Gen.st0_1 Gen.t0_0) fullShare ((dat0 m c).after 1 Gen.t0_0)
        ∗ owns c (Gen.st0_2 Gen.t0_0) fullShare ((dat0 m c).after 2 Gen.t0_0) ∗ owns c (Gen.st0_3 Gen.t0_0) fullShare ((dat0 m c).after 3 Gen.t0_0)
        ∗ owns c (Gen.st0_4 Gen.t0_0) fullShare ((dat0 m c).after 4 Gen.t0_0) ∗ owns c (Gen.st0_5 Gen.t0_0) fullShare ((dat0 m c).after 5 Gen.t0_0)) : sProp 𝕄) := by
  rw [stage_end0, stage_end1, stage_end2, stage_end3, stage_end4, stage_end5]
  unfold wins
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

theorem Phi_zero (c : Dev nD) : (dat0 m c).Φ 0 = early m c := by
  show (if ((0 : Fin (cfg0.N + 1)).val = 0) then early m c else late (F := F) c) = early m c; exact if_pos rfl
theorem Phi_first (c : Dev nD) : (dat0 m c).Φ Gen.t0_0.castSucc = early m c := by
  show (if ((Gen.t0_0.castSucc : Fin (cfg0.N + 1)).val = 0) then early m c else late (F := F) c) = early m c; exact if_pos rfl
theorem Phi_last (c : Dev nD) : (dat0 m c).Φ (Fin.last _) = late (F := F) c := by
  show (if (Fin.last cfg0.N).val = 0 then early m c else late (F := F) c) = late (F := F) c
  rw [Fin.val_last, if_neg (by rw [show cfg0.N = 1 from Gen.N_0]; decide)]

/-- The run of the body in the words of the call. -/
theorem run_call (c : Dev nD) (f5 : Vec F S2x128x512 .f32) :
    iprop(begun (PP m) (GG m) c ∗ ow c (O₀ c) ∗ wins c (inX m c) (inWq m c) (inK m c) (inV m c) (inWo m c) ∗ whole c cc0_stg5_0 f5
        ∗ (anyOf (F := F) c cc0_scratch0 ∗ anyOf (F := F) c cc0_scratch1 ∗ anyOf (F := F) c cc0_scratch2))
      ⊢ WP c (Gen.bodyAt0 (F := F) Gen.t0_0)
          (fun _ => iprop(over (F := F) c ∗ wins c (inX m c) (inWq m c) (inK m c) (inV m c) (inWo m c) ∗ whole c cc0_stg5_0 (outV m))) :=
  body_run (PP m) (GG m) c rfl rfl

/-- The body keeps the call's promise. -/
theorem body_ok (c : Dev nD) : BodyObligation (dat0 m c) (defs₀ (F := F)) 𝒱₀ () Set.univ := fun t => by
  obtain rfl := Gen.fin_N0 t
  rw [Gen.bigSep_W0, Gen.bigSep_W0, Phi_first, show (dat0 m c).Φ Gen.t0_0.succ = _ from Phi_last m c]
  unfold early late scr
  iintro ⟨⟨Hg, Hs, Hp⟩, HO, Hw⟩
  ihave HO := (owesAt_first m c) $$ HO
  ihave Hw := (stages_in m c) $$ Hw
  icases Hw with ⟨Hw, ⟨%f5, H5⟩⟩
  ihave H := (run_call m c f5) $$ [Hg HO Hw H5 Hs]
  · isplitl [Hg]; · iexact Hg
    isplitl [HO]; · iexact HO
    isplitl [Hw]; · iexact Hw
    isplitl [H5]; · iexact H5
    iexact Hs
  iapply (wp_wand_r frame (wpE (defs₀ (F := F)) 𝒱₀ (c : Thread nD τ) none) Set.univ)
  isplitl [H]; · iexact H
  iintro %_ H
  unfold over
  icases H with ⟨⟨HO, Hs, Hc⟩, Hw, H5⟩
  ihave Hw := (stages_end m c) $$ [Hw H5]
  · isplitl [Hw]; · iexact Hw
    iexact H5
  isplitl [Hc Hs Hp]
  · isplitl [Hc]; · iexact Hc
    isplitl [Hs]; · iexact Hs
    iexact Hp
  isplitl [HO]; · iapply (owesAt_last m c); iexact HO
  iexact Hw

end

end Cert.Talk

end
-- ==== Proof.Call.lean ====
/-
  The one call of the program as a region: what it is entered with, what it is left with, and the waits of its staging.
-/
module

public import proofs.«01_k».proof.Proof.Data

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The kernel's own transfer semaphores. -/
abbrev osem (x : Fin 4 × Fin 16) : SemLoc sig := .dma (dmaS x.1 x.2)

section

variable (m : (ℓ : Loc nD τ sig) → Buf (Elt F) ℓ)

/-- The tokens of the duties that device `c` pays: the barriers of the others, and for each step the two cells of each copy. -/
def ptoks (c : Dev nD) : sProp 𝕄 := iprop(btoks (F := F) c
  ∗ ((bigSep (Finset.Ico 1 16) fun k => dutyTok ER (dCell c 0 (kf k)) 0 (0 : Dev nD))
    ∗ bigSep (Finset.Ico 1 16) fun k => dutyTok ER (dCell (pk c k) 1 c) 0 (0 : Dev nD))
  ∗ ((bigSep (Finset.Ico 1 16) fun k => dutyTok ER (dCell c 2 (kf k)) 0 (0 : Dev nD))
    ∗ bigSep (Finset.Ico 1 16) fun k => dutyTok ER (dCell (pk c k) 3 c) 0 (0 : Dev nD)))

/-- What device `c` keeps of the conversation while its transfer cells are not open. -/
def keeps (c : Dev nD) : sProp 𝕄 := iprop(atPos ER (barCell c) 0 ∅ 0 ∗ (bigSep Finset.univ fun x : Fin 4 × Fin 16 => openTok ER (dCell c x.1 x.2)) ∗ ptoks (F := F) c)
/-- What its waits will be answered by. -/
def dueTo (c : Dev nD) : sProp 𝕄 := iprop(cred (tallyAt (barCell c) () 15) ∗ creds c 1 (pk c) ∗ creds c 3 (pk c))

/-- The call is entered with this; -/
def Tk (c : Dev nD) : sProp 𝕄 := iprop((∃ K, recs (PP m) (GG m) K ∗ keeps (F := F) c) ∗ dueTo (F := F) c)
/-- and left with the barrier counter at zero. -/
def Yk (c : Dev nD) : sProp 𝕄 := semVal (barCell c) 0

/-- The rights of one device, from the tokens and the evidence that its source cells are open. -/
theorem toks_made (c : Dev nD) :
    iprop(ptoks (F := F) c ∗ rch (F := F) c 0 kf ∗ rch (F := F) c 2 kf) ⊢ (iprop(btoks (F := F) c ∗ toks (F := F) c) : sProp 𝕄) := by
  unfold ptoks rch toks
  iintro ⟨⟨Hb, ⟨H0, H1⟩, H2, H3⟩, R0, R2⟩
  isplitl [Hb]; · iexact Hb
  ihave A := (zip_steps _ _) $$ [R0 H1]
  · isplitl [R0]; · iexact R0
    iexact H1
  ihave A := (zip_steps _ _) $$ [H0 A]
  · isplitl [H0]; · iexact H0
    iexact A
  ihave B := (zip_steps _ _) $$ [R2 H3]
  · isplitl [R2]; · iexact R2
    iexact H3
  ihave B := (zip_steps _ _) $$ [H2 B]
  · isplitl [H2]; · iexact H2
    iexact B
  ihave A := (zip_steps _ _) $$ [A B]
  · isplitl [A]; · iexact A
    iexact B
  iexact A

/-- Entering the call: the transfer cells are opened, and the conversation has begun. -/
theorem hopen (c : Dev nD) : iprop(Tk m c ∗ Pipeline.ownSems0 osem c ∗ levAts L lv) ⊢ (|={Set.univ}=> begun (PP m) (GG m) c : sProp 𝕄) := by
  unfold Tk keeps dueTo
  iintro ⟨⟨⟨%K, #Hr, Hat, Hot, Hpt⟩, HcB, Hc1, Hc3⟩, Hos, #Hl⟩
  ihave Hos := (show (Pipeline.ownSems0 osem c : sProp 𝕄) ⊢ bigSep Finset.univ fun x : Fin 4 × Fin 16 => semVal (dCell c x.1 x.2) 0 from BI.Entails.refl _) $$ Hos
  imod (open_all (PP m) (GG m) K c) $$ [Hot Hos] with ⟨Hi, ⟨A0, A1, A2, A3⟩, R0, R1, R2, R3⟩
  · isplitr
    · unfold ctx
      isplitr; · iexact Hr
      iexact Hl
    isplitl [Hot]; · iexact Hot
    iexact Hos
  imodintro
  ihave Ht := (toks_made (F := F) c) $$ [Hpt R0 R2]
  · isplitl [Hpt]; · iexact Hpt
    isplitl [R0]; · iexact R0
    iexact R2
  icases Ht with ⟨Hb, Ht⟩
  unfold begun
  iexists K
  isplitr
  · unfold ctx
    isplitr; · iexact Hr
    iexact Hl
  isplitl [HcB Hat]
  · isplitl [HcB]; · iexact HcB
    iexact Hat
  isplitl [Hb]; · iexact Hb
  isplitl [Ht]; · iexact Ht
  isplitl [R1 R3]
  · isplitl [R1]; · iexact R1
    iexact R3
  isplitl [Hc1 A1]
  · isplitl [Hc1]; · iexact Hc1
    iexact A1
  isplitl [Hc3 A3]
  · isplitl [Hc3]; · iexact Hc3
    iexact A3
  isplitl [A0]; · iexact A0
  isplitl [A2]; · iexact A2
  iexact Hi

/-- The buffers the call leaves: those before it, the result in its array. -/
def W1 (c : Dev nD) : Valuation τ sig (Elt F) := Function.update (Gen.V1 m c) (Proc.devRef .tc main_v17) (outV m)

/-- The buffers the call does not stage. -/
abbrev others : Finset (DevRef τ sig) := Pipeline.ucRefs τ sig \ Pipeline.arrRefs (τ := τ) spec0

theorem arrs_sub : Pipeline.arrRefs (τ := τ) spec0 ⊆ Pipeline.ucRefs τ sig := by
  decide +kernel

theorem res_mem : Proc.devRef .tc main_v17 ∈ Pipeline.arrRefs (τ := τ) spec0 := by
  decide +kernel

theorem held_none (c : Dev nD) (V : Valuation τ sig (Elt F)) : (StableHlo.held (c.tc : Thread nD τ) (∅ : Finset (DevRef τ sig)) V : sProp 𝕄) = BI.emp := by
  unfold StableHlo.held; exact BI.bigSep_empty

theorem hin (c : Dev nD) :
    iprop(Pipeline.scopedRest (Pipeline.pin (pcfgs (F := F)) Gen.adm 0).spec c ∗ (∃ r, prngReg c r)
        ∗ StableHlo.held (c.tc : Thread nD τ) (∅ : Finset (DevRef τ sig)) (Gen.V1 m c) ∗ begun (PP m) (GG m) c)
      ⊢ (pdats m 0 c).Φ 0 := by
  rw [show (pdats m 0 c).Φ 0 = early m c from Phi_zero m c,
    show (Pipeline.scopedRest (Pipeline.pin (pcfgs (F := F)) Gen.adm 0).spec c : sProp 𝕄) = _ from Gen.scopedRest0_eq c]
  unfold early scr
  iintro ⟨Hs, Hp, -, Hb⟩
  isplitl [Hb]; · iexact Hb
  isplitl [Hs]; · iexact Hs
  iexact Hp

theorem hout (c : Dev nD) :
    (pdats m 0 c).Φ (Fin.last (Pipeline.pin (pcfgs (F := F)) Gen.adm 0).N)
      ⊢ iprop(Pipeline.scopedRest (Pipeline.pin (pcfgs (F := F)) Gen.adm 0).spec c ∗ (∃ r, prngReg c r)
        ∗ StableHlo.held (c.tc : Thread nD τ) (∅ : Finset (DevRef τ sig)) (W1 m c) ∗ Pipeline.ownSems0 osem c ∗ Yk c) := by
  rw [show (pdats m 0 c).Φ (Fin.last (Pipeline.pin (pcfgs (F := F)) Gen.adm 0).N) = late (F := F) c from Phi_last m c,
    show (Pipeline.scopedRest (Pipeline.pin (pcfgs (F := F)) Gen.adm 0).spec c : sProp 𝕄) = _ from Gen.scopedRest0_eq c, held_none]
  unfold late scr counters Yk
  iintro ⟨⟨Hd, Hb⟩, Hs, Hp⟩
  isplitl [Hs]; · iexact Hs
  isplitl [Hp]; · iexact Hp
  isplitr; · iempintro
  isplitl [Hd]
  · iapply (show (bigSep Finset.univ fun x : Fin 4 × Fin 16 => semVal (dCell c x.1 x.2) 0 : sProp 𝕄) ⊢ Pipeline.ownSems0 osem c from BI.Entails.refl _)
    iexact Hd
  iexact Hb

theorem kitP : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

/-- Everything a device owes at the start is at a level above zero. -/
theorem owes_high {c : Dev nD} {g : GSem nD τ sig} {u : Unit} (h : 0 < O₀ c g u) : u ∈ L g ∧ 0 < lv g u := by
  have key : ∀ (f : ℕ → GSem nD τ sig) (n : ℕ), (∀ k, f k ∈ ({g | g.1.2 = .tc ∧ 0 < lv g ()} : Set (GSem nD τ sig))) →
      0 < (∑ k ∈ Finset.Ico 1 16, (tallyAt (f k) () n : CellTallies nD τ sig Unit)) g u → u ∈ L g ∧ 0 < lv g u := by
    intro f n hf hp
    obtain ⟨k, -, rfl⟩ := ow_pos f n _ g u hp
    exact ⟨by unfold L; rw [if_pos (hf k).1]; exact Finset.mem_singleton_self _, (hf k).2⟩
  unfold O₀ at h
  rw [Pi.add_apply, Pi.add_apply, Finsupp.add_apply, Finsupp.add_apply] at h
  rcases Nat.add_pos_iff_pos_or_pos.mp h with h | h
  · rcases Nat.add_pos_iff_pos_or_pos.mp h with h | h
    · exact key (fun k => dCell (pk c k) 3 c) N (fun k => ⟨rfl, by rw [lv_tc, lv3]; decide⟩) h
    · exact key (fun k => dCell (pk c k) 1 c) N (fun k => ⟨rfl, by rw [lv_tc, lv1]; decide⟩) h
  · exact key (fun k => barCell (pk c k)) 1 (fun k => ⟨rfl, by show 0 < 1; decide⟩) h

/-- The staging semaphores are at level zero. -/
theorem stage_low : ∀ (w : Fin cfg0.W) (s : Fin (cfg0.win w).nbuf), lvOf (.dma ((cfg0.win w).sem s)) ≤ 0 := by
  decide +kernel

/-- No staging wait is at a level the device still owes at. -/
theorem cutD (c : Dev nD) (t : Fin ((Pipeline.pin (pcfgs (F := F)) Gen.adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · exact owes_high h
  · exact absurd h (Nat.lt_irrefl 0)

theorem arr_start (c : Dev nD) (w : Fin cfg0.W) : (dat0 m c).arrAt w 0 = Gen.V1 m c (Proc.devRef .tc (Pipeline.arrRef spec0 w)) := by
  fin_cases w <;> rfl

theorem W1_other (c : Dev nD) {b : DevRef τ sig} (h : b ≠ Proc.devRef .tc main_v17) : W1 m c b = Gen.V1 m c b := Function.update_of_ne h _ _
theorem W1_res (c : Dev nD) : W1 m c (Proc.devRef .tc main_v17) = outV m := Function.update_self _ _ _

theorem arr_end (c : Dev nD) (w : Fin cfg0.W) : (dat0 m c).arrAt w cfg0.N = W1 m c (Proc.devRef .tc (Pipeline.arrRef spec0 w)) := by
  fin_cases w
  · exact ((dat0 m c).arrAt_in 0 rfl _).trans (W1_other m c (b := Proc.devRef .tc main_arg0) (by decide)).symm
  · exact ((dat0 m c).arrAt_in 1 rfl _).trans (W1_other m c (b := Proc.devRef .tc main_arg1) (by decide)).symm
  · exact ((dat0 m c).arrAt_in 2 rfl _).trans (W1_other m c (b := Proc.devRef .tc main_v15) (by decide)).symm
  · exact ((dat0 m c).arrAt_in 3 rfl _).trans (W1_other m c (b := Proc.devRef .tc main_v16) (by decide)).symm
  · exact ((dat0 m c).arrAt_in 4 rfl _).trans (W1_other m c (b := Proc.devRef .tc main_arg4) (by decide)).symm
  · exact (arr_out m c).trans (W1_res m c).symm

set_option backward.isDefEq.respectTransparency.types false in
/-- The call as a region of the program. -/
def reg0 : Pipeline.RegionSeg (pcfgs (F := F)) Gen.adm (pdats m) () defs₀ 𝒱₀ L lv 0 :=
  Pipeline.RegionSeg.ofTalk (pcfgs (F := F)) Gen.adm (pdats m) () defs₀ 𝒱₀ L lv 0 osem (by decide +kernel : Pipeline.OwnSemFacts spec0 osem)
    ∅ others (Finset.empty_subset _) kitP rfl (fun c => (body_ok m c).loose)
    (fun _ => 0) O₀ (fun c => (owed_zero m c).trans (zero_add _).symm) (owed_last m) (fun _ => rfl) (fun _ w => by fin_cases w <;> rfl)
    (Gen.V1 m) (W1 m) (fun c b hb => W1_other m c fun e => by
      subst e
      exact (Finset.mem_sdiff.mp (Finset.mem_sdiff.mp hb).1).2 res_mem)
    (Tk m) Yk (fun c => begun (PP m) (GG m) c) Yk (hopen m) (hin m) (hout m)
    (fun c => by iintro H; imodintro; iexact H)
    (fun _ => 0)
    ⟨fun c w s => by rw [L_tc]; exact Finset.mem_singleton_self _, fun c w s => stage_low w s, fun c t g i h => cutD m c t g i h⟩
    (fun _ => iprop(emp))
    (arr_start m) (arr_end m)

/-- Everything device `c` holds when the call is entered, from all its buffers and the rest; -/
theorem reg0_pre (c : Dev nD) :
    iprop(StableHlo.held (c : Thread nD τ) (Pipeline.ucRefs τ sig) (Gen.V1 m c) ∗ Tk m c ∗ (∃ r, prngReg c r) ∗ ow c (O₀ c)) ⊢ (reg0 m).pre c := by
  show _ ⊢ iprop(StableHlo.held (c.tc : Thread nD τ) (Pipeline.arrRefs (τ := τ) spec0) (Gen.V1 m c) ∗ (∃ r, prngReg c r)
    ∗ (StableHlo.held (c.tc : Thread nD τ) others (Gen.V1 m c) ∗ emp) ∗ Tk m c ∗ ∃ Wd, owes (c : Thread nD τ) (0 + O₀ c) Wd)
  rw [StableHlo.held_sub_split (c.tc : Thread nD τ) arrs_sub (Gen.V1 m c), zero_add]
  unfold ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- and all its buffers again when it is left. -/
theorem reg0_post (c : Dev nD) :
    (reg0 m).post c ⊢ iprop(StableHlo.held (c : Thread nD τ) (Pipeline.ucRefs τ sig) (W1 m c) ∗ (Yk (F := F) c ∗ ow c 0)) := by
  show iprop(StableHlo.held (c.tc : Thread nD τ) (Pipeline.arrRefs (τ := τ) spec0) (W1 m c) ∗ (∃ r, prngReg c r)
    ∗ (StableHlo.held (c.tc : Thread nD τ) others (W1 m c) ∗ emp) ∗ Yk c ∗ ∃ Wd, owes (c : Thread nD τ) (0 : CellTallies nD τ sig Unit) Wd) ⊢ _
  rw [StableHlo.held_sub_split (c.tc : Thread nD τ) arrs_sub (W1 m c)]
  unfold ow
  iintro ⟨Ha, -, ⟨Hr, -⟩, HY, HO⟩
  isplitl [Ha Hr]
  · isplitl [Ha]; · iexact Ha
    iexact Hr
  isplitl [HY]; · iexact HY
  iexact HO

end

end Cert.Talk

end
-- ==== Proof.Launch.lean ====
/-
  The start of the program: the cells are given their invariants, and each device receives its tokens and its credits.
-/
module

public import proofs.«01_k».proof.Proof.Call

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Credits -/

theorem dmaS_inj {a a' : Fin 4} {i i' : Fin 16} (h : dmaS a i = dmaS a' i') : a = a' ∧ i = i' := by
  have h' := congrArg Fin.val h
  rw [dmaS_val, dmaS_val] at h'
  have := i.isLt; have := i'.isLt
  exact ⟨Fin.ext (by omega), Fin.ext (by omega)⟩

theorem dCell_inj {c c' : Dev nD} {a a' : Fin 4} {i i' : Fin 16} (h : dCell c a i = dCell c' a' i') : c = c' ∧ a = a' ∧ i = i' := by
  refine ⟨congrArg (fun g : GSem nD τ sig => g.1.1) h, dmaS_inj (SemLoc.dma.inj (congrArg Prod.snd h))⟩

theorem dma_ne_reg {a : Fin 4} {i : Fin 16} {b : Sem sig} : (SemLoc.dma (dmaS a i) : SemLoc sig) ≠ .reg b := nofun
theorem dCell_ne_bar {c d : Dev nD} {a : Fin 4} {i : Fin 16} : dCell c a i ≠ barCell d := fun h => dma_ne_reg (congrArg Prod.snd h)

/-- A sum over the steps from `d` is a sum over the other devices. -/
theorem sum_steps (d : Dev nD) (f : Dev nD → ℕ) : ∑ k ∈ Finset.Ico 1 16, f (pk d k) = ∑ e ∈ Finset.univ.erase d, f e := by
  rw [← image_pk d, Finset.sum_image fun k hk k' hk' e => pk_inj d (Finset.mem_Ico.mp hk).2 (Finset.mem_Ico.mp hk').2 e]

/-- What a family of tallies amounts to at one cell. -/
theorem tallies_at (f : ℕ → GSem nD τ sig) (n : ℕ) (g : GSem nD τ sig) :
    (∑ k ∈ Finset.Ico 1 16, (tallyAt (f k) () n : CellTallies nD τ sig Unit)) g () = ∑ k ∈ Finset.Ico 1 16, if g = f k then n else 0 := by
  rw [Finset.sum_apply, Finsupp.finset_sum_apply]
  refine Finset.sum_congr rfl fun k _ => ?_
  rw [tallyAt_apply]
  exact if_congr ⟨fun h => h.1, fun h => ⟨h, rfl⟩⟩ rfl rfl

theorem owB_bar (d c : Dev nD) : owB d 1 (barCell c) () = if c ∈ Finset.univ.erase d then 1 else 0 := by
  unfold owB
  rw [tallies_at, sum_steps d fun e => if barCell c = barCell e then 1 else 0, ← Finset.sum_ite_eq (Finset.univ.erase d) c fun _ => 1]
  exact Finset.sum_congr rfl fun e _ => if_congr ⟨fun h => congrArg (fun g : GSem nD τ sig => g.1.1) h, fun h => by rw [h]⟩ rfl rfl

/-- The landings device `d` owes on array `a`, at a transfer cell, -/
theorem lands_at (a a' : Fin 4) (d c : Dev nD) (i : Fin 16) :
    (∑ k ∈ Finset.Ico 1 16, (tallyAt (dCell (pk d k) a d) () N : CellTallies nD τ sig Unit)) (dCell c a' i) ()
      = if a' = a ∧ i = d ∧ c ≠ d then N else 0 := by
  rw [tallies_at, sum_steps d fun e => if dCell c a' i = dCell e a d then N else 0]
  by_cases h : a' = a ∧ i = d
  · obtain ⟨rfl, rfl⟩ := h
    rw [Finset.sum_congr rfl fun e _ => (if_congr ⟨fun h => (dCell_inj h).1, fun h => by rw [h]⟩ rfl rfl :
      (if dCell c a' i = dCell e a' i then N else 0) = if c = e then N else 0), Finset.sum_ite_eq]
    exact if_congr ⟨fun h => ⟨rfl, rfl, Finset.ne_of_mem_erase h⟩, fun h => Finset.mem_erase.mpr ⟨h.2.2, Finset.mem_univ _⟩⟩ rfl rfl
  · rw [if_neg fun h' => h ⟨h'.1, h'.2.1⟩]
    exact Finset.sum_eq_zero fun e _ => if_neg fun h' => h (dCell_inj h').2
/-- and at a barrier. -/
theorem lands_bar (a : Fin 4) (d c : Dev nD) :
    (∑ k ∈ Finset.Ico 1 16, (tallyAt (dCell (pk d k) a d) () N : CellTallies nD τ sig Unit)) (barCell c) () = 0 := by
  rw [tallies_at]
  exact Finset.sum_eq_zero fun k _ => if_neg fun h => dCell_ne_bar h.symm

theorem owB_dma (d c : Dev nD) (a : Fin 4) (i : Fin 16) : owB d 1 (dCell c a i) () = 0 := by
  unfold owB
  rw [tallies_at]
  exact Finset.sum_eq_zero fun k _ => if_neg fun h => dCell_ne_bar h

theorem owed_bar (d c : Dev nD) : O₀ d (barCell c) () = if c ∈ Finset.univ.erase d then 1 else 0 := by
  unfold O₀ ow1 ow3
  rw [Pi.add_apply, Pi.add_apply, Finsupp.add_apply, Finsupp.add_apply, lands_bar, lands_bar, owB_bar, zero_add, zero_add]

theorem owed_dma (d c : Dev nD) (a : Fin 4) (i : Fin 16) (ha : a = 1 ∨ a = 3) (hi : i ≠ c) : O₀ d (dCell c a i) () = if d = i then N else 0 := by
  unfold O₀ ow1 ow3
  rw [Pi.add_apply, Pi.add_apply, Finsupp.add_apply, Finsupp.add_apply, lands_at, lands_at, owB_dma]
  have hi' : d = i → c ≠ d := fun e h => hi (e ▸ h.symm)
  by_cases hd : d = i
  · rcases ha with rfl | rfl
    · rw [if_neg (fun h => absurd h.1 (by decide)), if_pos ⟨rfl, hd.symm, hi' hd⟩, if_pos hd, zero_add, add_zero]
    · rw [if_pos ⟨rfl, hd.symm, hi' hd⟩, if_neg (fun h => absurd h.1 (by decide)), if_pos hd, add_zero, add_zero]
  · rw [if_neg fun h => hd h.2.1.symm, if_neg fun h => hd h.2.1.symm, if_neg hd]

theorem launch_bar (c : Dev nD) :
    tallyOn (barCell c) (launchCredit (Pipeline.owing O₀) 0 (barCell c)) = (tallyAt (barCell c) () 15 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c; decide

theorem launch_dma (c : Dev nD) (a : Fin 4) (i : Fin 16) (ha : a = 1 ∨ a = 3) (hi : i ≠ c) :
    tallyOn (dCell c a i) (launchCredit (Pipeline.owing O₀) 0 (dCell c a i)) = (tallyAt (dCell c a i) () N : CellTallies nD τ sig Unit) := by
  unfold tallyAt
  refine congrArg _ (Finsupp.ext fun u => ?_)
  cases u
  rw [Pipeline.launchCredit_owing, Finsupp.single_eq_same, Finset.sum_congr rfl fun d _ => owed_dma d c a i ha hi, Finset.sum_ite_eq',
    if_pos (Finset.mem_univ _)]

/-- The transfer semaphores of one array. -/
def dmaEmb (a : Fin 4) : Fin 16 ↪ SemLoc sig := ⟨fun i => .dma (dmaS a i), fun _ _ h => (dmaS_inj (SemLoc.dma.inj h)).2⟩

/-- The launch credit of a device's semaphores in one array, as the credits its waits use. -/
theorem creds_made (c : Dev nD) (a : Fin 4) (ha : a = 1 ∨ a = 3) :
    (bigSep ((Finset.univ.erase c).map (dmaEmb a)) fun sm : SemLoc sig => cred (tallyOn ((c.tc : Thread nD τ), sm) (launchCredit (Pipeline.owing O₀) 0 ((c.tc : Thread nD τ), sm))) : sProp 𝕄)
      = creds c a (pk c) := by
  unfold creds
  rw [bigSep_map, steps_devs c fun i => cred (tallyAt (dCell c a i) () N)]
  exact bigSep_congr fun i hi => congrArg cred (launch_dma c a i ha (Finset.ne_of_mem_erase hi))

theorem credits (c : Dev nD) : (Pipeline.launchCred O₀ c : sProp 𝕄) ⊢ dueTo (F := F) c := by
  unfold Pipeline.launchCred dueTo
  have hb : SemLoc.reg barS ∉ ((Finset.univ.erase c).map (dmaEmb 1) ∪ (Finset.univ.erase c).map (dmaEmb 3) : Finset (SemLoc sig)) := fun h => by
    rcases Finset.mem_union.mp h with h | h
    · obtain ⟨i, -, e⟩ := Finset.mem_map.mp h; exact dma_ne_reg e
    · obtain ⟨i, -, e⟩ := Finset.mem_map.mp h; exact dma_ne_reg e
  have hd : Disjoint ((Finset.univ.erase c).map (dmaEmb 1)) ((Finset.univ.erase c).map (dmaEmb 3)) := by
    rw [Finset.disjoint_left]
    intro g h1 h3
    obtain ⟨i, -, rfl⟩ := Finset.mem_map.mp h1
    obtain ⟨j, -, e⟩ := Finset.mem_map.mp h3
    exact absurd (dmaS_inj (SemLoc.dma.inj e)).1 (by decide)
  rw [← creds_made c 1 (.inl rfl), ← creds_made c 3 (.inr rfl), ← launch_bar]
  refine BIBase.Entails.trans (bigSep_subset (Finset.subset_univ (insert (SemLoc.reg barS) ((Finset.univ.erase c).map (dmaEmb 1) ∪ (Finset.univ.erase c).map (dmaEmb 3))))) ?_
  rw [bigSep_insert hb, bigSep_union hd]; exact BI.Entails.refl _

/-! ## Tokens -/

def barEmb : Dev nD ↪ GSem nD τ sig := ⟨fun c => barCell c, fun _ _ h => congrArg (fun g : GSem nD τ sig => g.1.1) h⟩
def cellEmb : Dev nD × Fin 4 × Fin 16 ↪ GSem nD τ sig :=
  ⟨fun x => dCell x.1 x.2.1 x.2.2, fun _ _ h => Prod.ext (dCell_inj h).1 (Prod.ext (dCell_inj h).2.1 (dCell_inj h).2.2)⟩
def barTok : Dev nD × Dev nD ↪ GSem nD τ sig × ℕ × Dev nD :=
  ⟨fun x => (barCell x.1, 0, x.2), fun _ _ h =>
    Prod.ext (congrArg (fun t : GSem nD τ sig × ℕ × Dev nD => t.1.1.1) h) (congrArg (fun t : GSem nD τ sig × ℕ × Dev nD => t.2.2) h)⟩
def cellTok : Dev nD × Fin 4 × Fin 16 ↪ GSem nD τ sig × ℕ × Dev nD :=
  ⟨fun x => (dCell x.1 x.2.1 x.2.2, 0, 0), fun _ _ h => cellEmb.injective (congrArg (fun t : GSem nD τ sig × ℕ × Dev nD => t.1) h)⟩

/-- All barriers; all transfer cells; a token for every duty. -/
def bars : Finset (GSem nD τ sig) := Finset.univ.map barEmb
def cells : Finset (GSem nD τ sig) := Finset.univ.map cellEmb
def allToks : Finset (GSem nD τ sig × ℕ × Dev nD) := Finset.univ.map barTok ∪ Finset.univ.map cellTok

theorem bars_cells : Disjoint bars cells := by
  unfold bars cells
  rw [Finset.disjoint_left]
  intro g h1 h2
  obtain ⟨c, -, rfl⟩ := Finset.mem_map.mp h1
  obtain ⟨x, -, e⟩ := Finset.mem_map.mp h2
  exact dCell_ne_bar e

theorem toks_disjoint : Disjoint (Finset.univ.map barTok) (Finset.univ.map cellTok) := by
  rw [Finset.disjoint_left]
  intro g h1 h2
  obtain ⟨c, -, rfl⟩ := Finset.mem_map.mp h1
  obtain ⟨x, -, e⟩ := Finset.mem_map.mp h2
  exact dCell_ne_bar (congrArg (fun t : GSem nD τ sig × ℕ × Dev nD => t.1) e)

theorem drop_first (A B : sProp 𝕄) : iprop(A ∗ B) ⊢ B := by
  iintro ⟨-, H⟩; iexact H

theorem union_split {I : Type} [DecidableEq I] {s t : Finset I} (Φ : I → sProp 𝕄) (h : Disjoint s t) : bigSep (s ∪ t) Φ ⊢ iprop(bigSep s Φ ∗ bigSep t Φ) :=
  Entails.of_eq (bigSep_union h)
theorem together {Φ Ψ : Dev nD → sProp 𝕄} : iprop(bigSep Finset.univ Φ ∗ bigSep Finset.univ Ψ) ⊢ bigSep Finset.univ fun c => iprop(Φ c ∗ Ψ c) :=
  Entails.of_eq (BI.bigSep_sep _ _ _).symm
theorem apart {Φ Ψ : Dev nD → sProp 𝕄} : (bigSep Finset.univ fun c => iprop(Φ c ∗ Ψ c)) ⊢ iprop(bigSep Finset.univ Φ ∗ bigSep Finset.univ Ψ) :=
  Entails.of_eq (BI.bigSep_sep _ _ _)

/-- The barriers' tokens go to the devices that pay them. -/
theorem deal_bars : (bigSep (Finset.univ.map barTok) fun x => dutyTok ER x.1 x.2.1 x.2.2 : sProp 𝕄) ⊢ bigSep Finset.univ fun c : Dev nD => btoks (F := F) c := by
  rw [bigSep_map, bigSep_univ_prod]
  refine BIBase.Entails.trans (Entails.of_eq (bigSep_univ_comm fun (c d : Dev nD) => (dutyTok ER (barCell c) 0 d : sProp 𝕄))) ?_
  refine bigSep_mono fun d _ => ?_
  rw [all_devs d fun c => dutyTok ER (barCell c) 0 d]
  unfold btoks
  exact drop_first _ _

/-- A token for a source cell stays where it is; -/
theorem deal_src (a : Fin 4) :
    (bigSep Finset.univ fun c : Dev nD => bigSep Finset.univ fun i : Fin 16 => dutyTok ER (dCell c a i) 0 (0 : Dev nD) : sProp 𝕄)
      ⊢ bigSep Finset.univ fun c : Dev nD => bigSep (Finset.Ico 1 16) fun k => dutyTok ER (dCell c a (kf k)) 0 (0 : Dev nD) := by
  refine bigSep_mono fun c _ => ?_
  rw [all_steps]
  exact drop_first _ _
/-- a token for a landing cell goes to the device whose copy lands there. -/
theorem deal_dst (a : Fin 4) :
    (bigSep Finset.univ fun c : Dev nD => bigSep Finset.univ fun i : Fin 16 => dutyTok ER (dCell c a i) 0 (0 : Dev nD) : sProp 𝕄)
      ⊢ bigSep Finset.univ fun c : Dev nD => bigSep (Finset.Ico 1 16) fun k => dutyTok ER (dCell (pk c k) a c) 0 (0 : Dev nD) := by
  refine BIBase.Entails.trans (Entails.of_eq (bigSep_univ_comm fun (c : Dev nD) (i : Fin 16) => (dutyTok ER (dCell c a i) 0 (0 : Dev nD) : sProp 𝕄))) ?_
  refine bigSep_mono fun d _ => ?_
  rw [all_devs d fun c => dutyTok ER (dCell c a d) 0 (0 : Dev nD)]
  exact drop_first _ _

/-- Every token reaches the device that uses it. -/
theorem deal : (bigSep allToks fun x => dutyTok ER x.1 x.2.1 x.2.2 : sProp 𝕄) ⊢ bigSep Finset.univ fun c : Dev nD => ptoks (F := F) c := by
  unfold allToks
  iintro H
  ihave H := (union_split (fun x : GSem nD τ sig × ℕ × Dev nD => (dutyTok ER x.1 x.2.1 x.2.2 : sProp 𝕄)) toks_disjoint) $$ H
  icases H with ⟨Hb, Hd⟩
  ihave Hb := (deal_bars (F := F)) $$ Hb
  ihave Hd := (show (bigSep (Finset.univ.map cellTok) fun x => dutyTok ER x.1 x.2.1 x.2.2 : sProp 𝕄)
      ⊢ bigSep Finset.univ fun c : Dev nD => iprop((bigSep Finset.univ fun i : Fin 16 => dutyTok ER (dCell c 0 i) 0 (0 : Dev nD))
        ∗ (bigSep Finset.univ fun i : Fin 16 => dutyTok ER (dCell c 1 i) 0 (0 : Dev nD)) ∗ (bigSep Finset.univ fun i : Fin 16 => dutyTok ER (dCell c 2 i) 0 (0 : Dev nD))
        ∗ bigSep Finset.univ fun i : Fin 16 => dutyTok ER (dCell c 3 i) 0 (0 : Dev nD)) from
    Entails.of_eq (by
      rw [bigSep_map, bigSep_univ_prod]
      refine bigSep_congr fun c _ => ?_
      rw [bigSep_univ_prod]
      exact four fun a => bigSep Finset.univ fun i : Fin 16 => dutyTok ER (dCell c a i) 0 (0 : Dev nD))) $$ Hd
  ihave Hd := apart $$ Hd
  icases Hd with ⟨H0, Hd⟩
  ihave Hd := apart $$ Hd
  icases Hd with ⟨H1, Hd⟩
  ihave Hd := apart $$ Hd
  icases Hd with ⟨H2, H3⟩
  ihave H0 := (deal_src (F := F) 0) $$ H0
  ihave H1 := (deal_dst (F := F) 1) $$ H1
  ihave H2 := (deal_src (F := F) 2) $$ H2
  ihave H3 := (deal_dst (F := F) 3) $$ H3
  unfold ptoks
  iapply together
  isplitl [Hb]; · iexact Hb
  iapply together
  isplitl [H0 H1]
  · iapply together
    isplitl [H0]; · iexact H0
    iexact H1
  iapply together
  isplitl [H2]; · iexact H2
  iexact H3

/-! ## The launch -/

/-- The launch element: the staging pipeline's part and the conversation's. -/
def u₀ : UU :=
  (initOf (Pipeline.cells (Pipeline.pin (pcfgs (F := F)) Gen.adm) Gen.cellOf_inj) (Pipeline.launchToks (Pipeline.pin (pcfgs (F := F)) Gen.adm) Gen.cellOf_inj),
    launchOf bars cells allToks)

/-- A resource held for the moment by device 0. -/
def parkedAt (X : sProp 𝕄) (c : Dev nD) : sProp 𝕄 := if c = 0 then X else iprop(emp)

theorem parkedAt_all (X : sProp 𝕄) : (bigSep Finset.univ fun c => parkedAt X c) = X := by
  rw [bigSep_univ_at _ (0 : Dev nD), bigSep_congr (s := Finset.univ.erase (0 : Dev nD)) (Ψ := fun _ => (BI.emp : sProp 𝕄))
      fun c hc => by unfold parkedAt; rw [if_neg (Finset.ne_of_mem_erase hc)]; rfl, BI.bigSep_emp_const]
  unfold parkedAt; rw [if_pos rfl]
  exact BI.equiv_iff.mp sep_emp

/-- The conversation's part, so held. -/
def parked (c : Dev nD) : sProp 𝕄 := parkedAt (BI.own (ER (launchOf bars cells allToks))) c
theorem parked_all : (bigSep Finset.univ fun c => parked (F := F) c) = BI.own (ER (launchOf bars cells allToks)) := parkedAt_all _

/-- The records every device may consult, for any cells open at the start (`S`) and dormant (`Sd`). -/
def noted (P : Dev nD → Vec F S256x512 .bf16) (G : Vec F S256x512 .bf16) (S Sd : Finset (GSem nD τ sig)) (K : GSem nD τ sig → ℕ) : sProp 𝕄 :=
  iprop((bigSep (S ∪ Sd) fun g => cellInv ER (rd P G) (K g) g) ∗ bigSep S fun g => reached ER g 0)

instance noted_persistent (P : Dev nD → Vec F S256x512 .bf16) (G : Vec F S256x512 .bf16) (S Sd : Finset (GSem nD τ sig)) (K : GSem nD τ sig → ℕ) :
    BI.Persistent (noted P G S Sd K) := by
  unfold noted; infer_instance

/-- The cells get their invariants. -/
theorem funded (P : Dev nD → Vec F S256x512 .bf16) (G : Vec F S256x512 .bf16) {S Sd : Finset (GSem nD τ sig)} (hd : Disjoint S Sd)
    (T : Finset (GSem nD τ sig × ℕ × Dev nD)) :
    iprop((bigSep S fun g => semVal g 0) ∗ BI.own (ER (launchOf S Sd T)))
      ⊢ (|={Set.univ}=> iprop(∃ K, noted P G S Sd K ∗ (bigSep S fun g => atPos ER g 0 ∅ 0) ∗ (bigSep Sd fun g => openTok ER g)
          ∗ bigSep T fun x => dutyTok ER x.1 x.2.1 x.2.2) : sProp 𝕄) := by
  iintro H
  imod (Rounds.fund_launch ER (rd P G) hd (fun g _ h => h) T) $$ H with ⟨%κ, -, Hinv, Hr, Hat, Hopen, Htok⟩
  imodintro
  iexists κ
  unfold noted
  isplitl [Hinv Hr]
  · isplitl [Hinv]; · iexact Hinv
    iexact Hr
  isplitl [Hat]; · iexact Hat
  isplitl [Hopen]; · iexact Hopen
  iexact Htok

theorem noted_recs (P : Dev nD → Vec F S256x512 .bf16) (G : Vec F S256x512 .bf16) (K : GSem nD τ sig → ℕ) : noted P G bars cells K ⊢ recs P G K := by
  unfold noted recs
  iintro ⟨H, H3⟩
  ihave H := (union_split (fun g => cellInv ER (rd P G) (K g) g) bars_cells) $$ H
  icases H with ⟨H1, H2⟩
  unfold bars cells
  ihave H1 := (Entails.of_eq (bigSep_map (s := Finset.univ) barEmb (Φ := fun g => cellInv ER (rd P G) (K g) g))) $$ H1
  ihave H2 := (Entails.of_eq (bigSep_map (s := Finset.univ) cellEmb (Φ := fun g => cellInv ER (rd P G) (K g) g))) $$ H2
  ihave H3 := (Entails.of_eq (bigSep_map (s := Finset.univ) barEmb (Φ := fun g => (reached ER g 0 : sProp 𝕄)))) $$ H3
  isplitl [H1]; · iexact H1
  isplitl [H2]; · iexact H2
  iexact H3

section

variable (m : (ℓ : Loc nD τ sig) → Buf (Elt F) ℓ) (ρ : Dev nD → PrngReg)

/-- What rides along while the host operations run, -/
def ride (c : Dev nD) : sProp 𝕄 := iprop(Tk m c ∗ (∃ r, prngReg c r) ∗ ow c (O₀ c))
/-- and after the call. -/
def rest (c : Dev nD) : sProp 𝕄 := iprop(Yk (F := F) c ∗ ow c 0)

def stage (i : Fin 2) (c : Dev nD) : sProp 𝕄 := if i = 0 then ride m c else rest (F := F) c

/-- What a device starts with, apart from the conversation. -/
def bundle (c : Dev nD) : sProp 𝕄 :=
  iprop(StableHlo.held (c : Thread nD τ) (Pipeline.ucRefs τ sig) (Gen.V0 m c) ∗ dueTo (F := F) c ∗ (∃ r, prngReg c r) ∗ ow c (O₀ c))

abbrev starts (c : Dev nD) : sProp 𝕄 := iprop(StableHlo.held (c : Thread nD τ) (Pipeline.ucRefs τ sig) (Gen.V0 m c) ∗ ride m c)
abbrev ends (c : Dev nD) : sProp 𝕄 := iprop(StableHlo.held (c : Thread nD τ) (Pipeline.ucRefs τ sig) (W1 m c) ∗ Yk (F := F) c)

theorem starts_made {S Sd : Finset (GSem nD τ sig)} (K : GSem nD τ sig → ℕ) (c : Dev nD) (hrec : noted (PP m) (GG m) S Sd K ⊢ recs (PP m) (GG m) K) :
    iprop(noted (PP m) (GG m) S Sd K ∗ (keeps (F := F) c ∗ bundle m c)) ⊢ (starts m c : sProp 𝕄) := by
  unfold bundle starts ride Tk
  iintro ⟨#HR, Hk, Hh, Hd, Hp, HO⟩
  isplitl [Hh]; · iexact Hh
  isplitl [Hk Hd]
  · isplitl [Hk]
    · iexists K
      isplitr
      · iapply hrec; iexact HR
      iexact Hk
    iexact Hd
  isplitl [Hp]; · iexact Hp
  iexact HO

theorem unscoped_bar : ∀ sm : SemLoc sig, sm.isScoped .tc = false → sm = .reg barS := by decide +kernel

theorem unscoped_sems (c : Dev nD) : (unscopedSems0 c : sProp 𝕄) = semVal (barCell c) 0 := by
  unfold unscopedSems0
  rw [show (Finset.univ.filter fun sm : SemLoc sig => ¬ sm.isScoped .tc = true) = {SemLoc.reg barS} from by decide +kernel, bigSep_singleton]

/-- One device's share of what the launch hands out. -/
theorem one_start (X : Dev nD → sProp 𝕄) (c : Dev nD) :
    iprop(unscopedBufs c (fun b => m ((c : Thread nD τ).loc b)) ∗ unscopedSems0 c ∗ owes (c : Thread nD τ) (O₀ c) ∅ ∗ Pipeline.launchCred O₀ c
        ∗ prngReg c (ρ c) ∗ X c)
      ⊢ (iprop(bundle m c ∗ (semVal (barCell c) 0 ∗ X c)) : sProp 𝕄) := by
  rw [show unscopedBufs c (fun b => m ((c : Thread nD τ).loc b)) = StableHlo.held (c : Thread nD τ) (Pipeline.ucRefs τ sig) (Gen.V0 m c) from
    Pipeline.unscopedBufs_held c (Gen.V0 m c), unscoped_sems]
  unfold bundle ow
  iintro ⟨Hh, Hs, HO, Hcr, Hp, HG⟩
  ihave Hc := (credits (F := F) c) $$ Hcr
  isplitr [Hs HG]
  · isplitl [Hh]; · iexact Hh
    isplitl [Hc]; · iexact Hc
    isplitl [Hp]; · iexists (ρ c); iexact Hp
    iexists ∅; iexact HO
  isplitl [Hs]; · iexact Hs
  iexact HG

theorem bars_vals : (bigSep Finset.univ fun c : Dev nD => semVal (barCell c) 0 : sProp 𝕄) ⊢ bigSep bars fun g => semVal g 0 := by
  unfold bars
  exact Entails.of_eq (bigSep_map (s := Finset.univ) barEmb (Φ := fun g : GSem nD τ sig => (semVal g 0 : sProp 𝕄))).symm
theorem bars_pos : (bigSep bars fun g => atPos ER g 0 ∅ 0 : sProp 𝕄) ⊢ bigSep Finset.univ fun c : Dev nD => atPos ER (barCell c) 0 ∅ 0 := by
  unfold bars
  exact Entails.of_eq (bigSep_map (s := Finset.univ) barEmb (Φ := fun g : GSem nD τ sig => (atPos ER g 0 ∅ 0 : sProp 𝕄)))
theorem cells_toks : (bigSep cells fun g => openTok ER g : sProp 𝕄)
    ⊢ bigSep Finset.univ fun c : Dev nD => bigSep Finset.univ fun x : Fin 4 × Fin 16 => openTok ER (dCell c x.1 x.2) :=
  Entails.of_eq (by unfold cells; rw [bigSep_map, bigSep_univ_prod]; rfl)

/-- What a device starts with, from the records, for any cells and tokens that make them. -/
theorem start_all {S Sd : Finset (GSem nD τ sig)} (hrec : ∀ K, noted (PP m) (GG m) S Sd K ⊢ recs (PP m) (GG m) K) (K : GSem nD τ sig → ℕ) :
    iprop(noted (PP m) (GG m) S Sd K ∗ (bigSep Finset.univ fun c => keeps (F := F) c) ∗ bigSep Finset.univ fun c => bundle m c)
      ⊢ (bigSep Finset.univ fun c => starts m c : sProp 𝕄) := by
  iintro ⟨#HR, Hk, HB⟩
  iapply (bigSep_with_persistent (R := noted (PP m) (GG m) S Sd K) (Φ := fun c => iprop(keeps (F := F) c ∗ bundle m c)) fun c _ =>
    starts_made m K c (hrec K))
  isplitr; · iexact HR
  iapply together
  isplitl [Hk]; · iexact Hk
  iexact HB

theorem keeps_all :
    iprop((bigSep Finset.univ fun c : Dev nD => atPos ER (barCell c) 0 ∅ 0)
        ∗ (bigSep Finset.univ fun c : Dev nD => bigSep Finset.univ fun x : Fin 4 × Fin 16 => openTok ER (dCell c x.1 x.2))
        ∗ bigSep Finset.univ fun c : Dev nD => ptoks (F := F) c)
      ⊢ (bigSep Finset.univ fun c => keeps (F := F) c : sProp 𝕄) := by
  unfold keeps
  iintro ⟨Ha, Ho, Ht⟩
  iapply together
  isplitl [Ha]; · iexact Ha
  iapply together
  isplitl [Ho]; · iexact Ho
  iexact Ht

theorem init_of {S Sd : Finset (GSem nD τ sig)} {T : Finset (GSem nD τ sig × ℕ × Dev nD)} (hd : Disjoint S Sd)
    (hrec : ∀ K, noted (PP m) (GG m) S Sd K ⊢ recs (PP m) (GG m) K)
    (hv : (bigSep Finset.univ fun c : Dev nD => semVal (barCell c) 0 : sProp 𝕄) ⊢ bigSep S fun g => semVal g 0)
    (hat : (bigSep S fun g => atPos ER g 0 ∅ 0 : sProp 𝕄) ⊢ bigSep Finset.univ fun c : Dev nD => atPos ER (barCell c) 0 ∅ 0)
    (hop : (bigSep Sd fun g => openTok ER g : sProp 𝕄)
      ⊢ bigSep Finset.univ fun c : Dev nD => bigSep Finset.univ fun x : Fin 4 × Fin 16 => openTok ER (dCell c x.1 x.2))
    (htk : (bigSep T fun x => dutyTok ER x.1 x.2.1 x.2.2 : sProp 𝕄) ⊢ bigSep Finset.univ fun c : Dev nD => ptoks (F := F) c)
    (X : Dev nD → sProp 𝕄) (hX : (bigSep Finset.univ fun c => X c) ⊢ BI.own (ER (launchOf S Sd T))) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ X c)) ∗ levAts L lv)
      ⊢ (|={Set.univ}=> bigSep Finset.univ fun c => starts m c : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ X c))
      ⊢ (bigSep Finset.univ fun c : Dev nD => iprop(bundle m c ∗ (semVal (barCell c) 0 ∗ X c)) : sProp 𝕄) from
    bigSep_mono fun c _ => one_start m ρ X c) $$ H
  ihave H := apart $$ H
  icases H with ⟨HB, H⟩
  ihave H := apart $$ H
  icases H with ⟨Hv, HG⟩
  ihave Hv := hv $$ Hv
  ihave HG := hX $$ HG
  imod (funded (PP m) (GG m) hd T) $$ [Hv HG] with ⟨%K, HR, Hat, Hopen, Htok⟩
  · isplitl [Hv]; · iexact Hv
    iexact HG
  imodintro
  ihave Hat := hat $$ Hat
  ihave Hopen := hop $$ Hopen
  ihave Htok := htk $$ Htok
  ihave Hk := (keeps_all (F := F)) $$ [Hat Hopen Htok]
  · isplitl [Hat]; · iexact Hat
    isplitl [Hopen]; · iexact Hopen
    iexact Htok
  iapply (start_all m hrec K)
  isplitl [HR]; · iexact HR
  isplitl [Hk]; · iexact Hk
  iexact HB

/-- The launch: every cell gets its invariant, and every device what it starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked (F := F) c)) ∗ levAts L lv)
      ⊢ (|={Set.univ}=> bigSep Finset.univ fun c => starts m c : sProp 𝕄) :=
  init_of m ρ bars_cells (noted_recs (PP m) (GG m)) bars_vals bars_pos cells_toks deal (fun c => parked (F := F) c) (Entails.of_eq parked_all)

end

end Cert.Talk

end
-- ==== Proof.Final.lean ====
/-
  The run of the whole program on the sixteen devices: it ends, its arguments are unchanged, every device's result is the
  gathered sum, and every semaphore counter is zero.
-/
module

public import proofs.«01_k».proof.Proof.Launch
public import Idealize.ShloMosaic.Lib.Quiescent

@[expose] public section

set_option maxRecDepth 8000

noncomputable section

namespace Cert.Talk

open Cert.KernelIdeal Cert.KernelIdeal.Facts₀
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- The arguments of device `c` as the program left them, and its result. -/
def Kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
def Ended (c : Dev nD) (s : MemSt nD τ sig (Elt F)) : Prop :=
  Kept m c s ∧ s.mem ((c.tc : Thread nD τ).loc main_v17) = outV m

theorem W1_arg (c : Dev nD) (r : Ref sig .tc) (h : r ∉ Gen.hostOps0_W) (h' : Proc.devRef .tc r ≠ (Proc.devRef .tc main_v17 : DevRef τ sig)) :
    W1 m c (Proc.devRef .tc r) = m ((c.tc : Thread nD τ).loc r) :=
  (W1_other m c h').trans (Gen.V1_of m c r h)

/-- The end: every argument and the result are read off the buffers held, the barrier's counter off its own. -/
theorem read_end (c : Dev nD) (s' : Phys nD τ sig (Elt F)) :
    iprop(ends m c ∗ SI s') ⊢ (|={Set.univ}=> iprop(⌜Ended m c s'.mem ∧ s'.mem.sem (barCell c) = 0⌝ ∗ SI s') : sProp 𝕄) := by
  unfold ends Yk StableHlo.held
  iintro ⟨⟨Hh, Hb⟩, HSI⟩
  icombine HSI Hb gives %hb
  ihave Hr := (pointsTo_read_all (Pipeline.ucRefs τ sig) (fun b => ((c : Thread nD τ).1, b)) (W1 m c) s') $$ [Hh HSI]
  · isplitl [Hh] <;> iassumption
  icases Hr with ⟨%h, HSI⟩
  imodintro
  isplitr
  · ipureintro
    have rd : ∀ r : Ref sig .tc, Proc.devRef .tc r ∈ Pipeline.ucRefs τ sig → s'.mem.mem ((c.tc : Thread nD τ).loc r) = W1 m c (Proc.devRef .tc r) :=
      fun r hr => h (Proc.devRef .tc r) hr
    refine ⟨⟨⟨?_, ?_, ?_, ?_, ?_⟩, ?_⟩, by simpa using hb⟩
    · exact (rd main_arg0 (Finset.mem_filter.mpr ⟨StableHlo.devRef_mem_tcRefs main_arg0, by decide⟩)).trans (W1_arg m c main_arg0 (by decide) (by decide))
    · exact (rd main_arg1 (Finset.mem_filter.mpr ⟨StableHlo.devRef_mem_tcRefs main_arg1, by decide⟩)).trans (W1_arg m c main_arg1 (by decide) (by decide))
    · exact (rd main_arg2 (Finset.mem_filter.mpr ⟨StableHlo.devRef_mem_tcRefs main_arg2, by decide⟩)).trans (W1_arg m c main_arg2 (by decide) (by decide))
    · exact (rd main_arg3 (Finset.mem_filter.mpr ⟨StableHlo.devRef_mem_tcRefs main_arg3, by decide⟩)).trans (W1_arg m c main_arg3 (by decide) (by decide))
    · exact (rd main_arg4 (Finset.mem_filter.mpr ⟨StableHlo.devRef_mem_tcRefs main_arg4, by decide⟩)).trans (W1_arg m c main_arg4 (by decide) (by decide))
    · exact (rd main_v17 (Finset.mem_filter.mpr ⟨StableHlo.devRef_mem_tcRefs main_v17, by decide⟩)).trans (W1_res m c)
  iexact HSI

set_option backward.isDefEq.respectTransparency.types false in
/-- The run. -/
theorem run_main : θ_run defs (onTc (τ := τ) (main (F := F))) ⟨m, fun _ => 0, ρ⟩
    (fun r => (∀ c : Dev nD, Ended m c r.2) ∧ r.2.sem = fun _ => 0) :=
  Pipeline.θ_run_regions_kit_dev_sems (pcfgs (F := F)) Gen.adm (pdats m) () Gen.cellOf_inj EP defs₀ 𝒱₀ L lv m ρ main
    (Gen.segs m 𝒱₀ L lv (stage m) () (pdats m) (reg0 m))
    (fun c Q => by
      rewrite [Gen.main_chain c, Pipeline.Seg.run_eq_chain,
        show (Gen.segs m 𝒱₀ L lv (stage m) () (pdats m) (reg0 m) c).map Pipeline.Seg.prog = [
          StableHlo.seq (Gen.hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    O₀ L_of_ne (parked (F := F)) u₀
    (by
      unfold u₀
      iintro Hu
      ihave H := (ownU_pair _ _) $$ Hu
      icases H with ⟨HP, HX⟩
      imodintro
      isplitl [HP]; · iexact HP
      rw [parked_all]; iexact HX)
    (fun c => starts m c) (fun c => ends m c)
    (fun c => ⟨.rfl, reg0_pre m c, (reg0_post m c).trans (by
      unfold ends ow
      iintro ⟨Hh, Hb, HO⟩
      isplitr [HO]
      · isplitl [Hh]; · iexact Hh
        iexact Hb
      iexact HO)⟩)
    (init m ρ)
    (fun c s => Ended m c s ∧ s.sem (barCell c) = 0)
    (read_end m)
    (fun s h hs => ⟨fun c => (h c).1, sem_eq_zero hs fun c sm hsm => by
      obtain rfl := unscoped_bar sm hsm
      exact (h c).2⟩)

end Cert.Talk

end
-- ==== Proof.Frames.lean ====
/- The three frames: what each program's run leaves of its arguments and of its counters. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final

@[expose] public section

noncomputable section

namespace Cert.Talk

open Idealize.ShloMosaic Idealize.SL.Sem

/-- The idealized kernel ends, its arguments unchanged and its counters at zero. -/
theorem frame_ideal : Cert.quiescent_KernelIdeal := fun m ρ _ =>
  (θ_run Cert.KernelIdeal.defs _ _).mono (fun _ h => ⟨fun c => (h.1 c).1, h.2⟩) (run_main (F := Ideal) m ρ)

set_option maxRecDepth 10000 in
/-- The body tables of the two programs are one: each has one label, which runs the same body. -/
theorem same_defs₀ : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- The tables with the region and the pipeline added are one as well. -/
theorem same_defs : Cert.Kernel.defs (F := Bits) = Cert.KernelIdeal.defs (F := Bits) :=
  congrArg (Pipeline.defs Cert.KernelIdeal.pcfgs) same_defs₀

/-- The kernel over bits is the same program, so its run is the one already proved, read at bits. -/
theorem frame_kernel : Cert.quiescent_Kernel := by
  intro m ρ _
  rw [same_defs]
  exact (θ_run (Cert.KernelIdeal.defs (F := Bits)) (onTc (τ := Cert.KernelIdeal.τ) (Cert.KernelIdeal.main (F := Bits))) ⟨m, fun _ => 0, ρ⟩).mono
    (fun r h => (⟨fun c => (h.1 c).1, h.2⟩ : (∀ c, Kept m c r.2) ∧ r.2.sem = fun _ => 0)) (run_main (F := Bits) m ρ)

/-- The reference runs on the host alone: it writes none of its arguments and has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Talk

end
-- ==== Proof.Attn.lean ====
/- The mathematics of the problem over the extended reals: one head's attention for one query, the query projection, and the
   output projection as a sum over devices, heads of a device, and places of a head. -/
module

public import proofs.«01_k».proof.Proof.Names
public import Idealize.ShloMosaic.Lib.Pointwise

@[expose] public section

noncomputable section

namespace Cert.Talk

open Idealize.ShloMosaic

/-! ## One head, one query -/

/-- How well one query matches key `j`: their inner product, scaled. -/
def score (q : Fin 64 → EReal) (k : Fin 128 → Fin 64 → EReal) (j : Fin 128) : EReal :=
  (∑ d, q d * k j d) * Ideal.ofBits FTy.f32 0x3E000000#32

/-- The exponential of a score less the greatest. -/
def weight (s : Fin 128 → EReal) (j : Fin 128) : EReal :=
  Ideal.exp (s j - Finset.univ.fold max (Ideal.ofBits FTy.f32 0xFF800000#32) s)

/-- The values averaged by the normalized weights. -/
def average (s v : Fin 128 → EReal) : EReal := ∑ j, Ideal.div (weight s j) (∑ l, weight s l) * v j

/-- Place `d` of one head's result for one query. -/
def attend (q : Fin 64 → EReal) (k v : Fin 128 → Fin 64 → EReal) (d : Fin 64) : EReal :=
  average (score q k) fun j => v j d

/-! ## Columns by head and by device -/

/-- Column `64 H + d` of the 4096: place `d` of head `H`. -/
def col (H : Fin 64) (d : Fin 64) : Fin 4096 := ⟨64 * H.val + d.val, by omega⟩
/-- Head `4 c + h` of the 64: device `c`'s head `h`. -/
def hd (c : Fin 16) (h : Fin 4) : Fin 64 := ⟨4 * c.val + h.val, by omega⟩

/-- A sum over all the heads is the sum over the devices of the sums over their four heads. -/
theorem sum_heads (f : Fin 64 → EReal) : ∑ H, f H = ∑ c : Fin 16, ∑ h : Fin 4, f (hd c h) := by
  rw [← Fintype.sum_prod_type']
  exact (Fintype.sum_equiv (finProdFinEquiv (m := 16) (n := 4)) _ _ fun p => congrArg f (Fin.ext (Nat.add_comm ..))).symm

/-- A sum over all the columns is the sum over the heads of the sums over their places. -/
theorem sum_cols (f : Fin 4096 → EReal) : ∑ k, f k = ∑ H : Fin 64, ∑ d : Fin 64, f (col H d) := by
  rw [← Fintype.sum_prod_type']
  exact (Fintype.sum_equiv (finProdFinEquiv (m := 64) (n := 64)) _ _ fun p => congrArg f (Fin.ext (Nat.add_comm ..))).symm

/-- A sum over a device's 256 columns is the sum over its four heads of the sums over their places. -/
theorem sum_four (f : Fin 256 → EReal) : ∑ k, f k = ∑ h : Fin 4, ∑ d : Fin 64, f ⟨64 * h.val + d.val, by omega⟩ := by
  rw [← Fintype.sum_prod_type']
  exact (Fintype.sum_equiv (finProdFinEquiv (m := 4) (n := 64)) _ _ fun p => congrArg f (Fin.ext (Nat.add_comm ..))).symm

/-! ## The whole problem -/

section Whole

variable (x : Fin 2 → Fin 128 → Fin 512 → EReal) (wq : Fin 512 → Fin 4096 → EReal)
  (K V : Fin 2 → Fin 128 → Fin 64 → Fin 64 → EReal) (wo : Fin 4096 → Fin 512 → EReal)

/-- Column `k` of the projected query `i` of batch entry `b`. -/
def query (b : Fin 2) (i : Fin 128) (k : Fin 4096) : EReal := ∑ e, x b i e * wq e k

/-- Place `d` of head `H`'s result for query `i` of batch entry `b`. -/
def context (b : Fin 2) (i : Fin 128) (H d : Fin 64) : EReal :=
  attend (fun e => query x wq b i (col H e)) (fun j e => K b j H e) (fun j e => V b j H e) d

/-- What device `c` adds to column `n` of the result for query `i` of batch entry `b`: its four heads' share. -/
def share (c : Fin 16) (b : Fin 2) (i : Fin 128) (n : Fin 512) : EReal :=
  ∑ h : Fin 4, ∑ d : Fin 64, context x wq K V b i (hd c h) d * wo (col (hd c h) d) n

/-- The result: the contexts of all heads, projected. -/
def answer (b : Fin 2) (i : Fin 128) (n : Fin 512) : EReal :=
  ∑ H : Fin 64, ∑ d : Fin 64, context x wq K V b i H d * wo (col H d) n

/-- The result is the sum of the devices' shares. -/
theorem answer_eq (b : Fin 2) (i : Fin 128) (n : Fin 512) :
    answer x wq K V wo b i n = ∑ c, share x wq K V wo c b i n :=
  sum_heads fun H => ∑ d : Fin 64, context x wq K V b i H d * wo (col H d) n

end Whole

end Cert.Talk

end
-- ==== Proof.Block.lean ====
/- A device's partial product over the extended reals: each entry is the device's share of the result. -/
module

public import proofs.«01_k».proof.Proof.Attn
public import proofs.«01_k».proof.Proof.Contents

@[expose] public section

set_option maxRecDepth 16384

noncomputable section

namespace Cert.Talk

open Idealize.ShloMosaic Cert.KernelIdeal Cert.KernelIdeal.Facts₀

/-- One head's block of the payloads is one head's attention. -/
theorem head_apply (q : FVec Ideal S128x64 .bf16) (k v : Vec Ideal S1x1x128x64 .bf16) (i : Fin 128) (d : Fin 64) :
    Gen.k0_pay5 q k v (ix2 i d)
      = attend (fun e => q (ix2 i e)) (fun j e => k (ix4 0 0 j e)) (fun j e => v (ix4 0 0 j e)) d := by
  pointwise [Gen.k0_pay5]
  rfl

/-- The contexts of four heads side by side, projected. -/
def project (w : FVec Ideal S256x512 .bf16) (a b c d : FVec Ideal S128x64 .f32) : FVec Ideal S128x512 .bf16 :=
  truncf .bf16 (matmul dot_S128x256_S256x512_S128x512_1_0_0_1_n_n none
    (truncf .bf16 (concatenate S128x256 1 [⟨S128x64, a⟩, ⟨S128x64, b⟩, ⟨S128x64, c⟩, ⟨S128x64, d⟩] concatenates_S128x64_S128x64_S128x64_S128x64_S128x256_d1) bitsLt_bf16_f32)
    w (constant S128x512 .f32 0x00000000#32)) bitsLt_bf16_f32

/-- An entry of it is the sum of the four heads' products with their rows of the projection. -/
theorem project_apply (w : FVec Ideal S256x512 .bf16) (u : Fin 4 → FVec Ideal S128x64 .f32) (i : Fin 128) (n : Fin 512) :
    project w (u 0) (u 1) (u 2) (u 3) (ix2 i n)
      = ∑ h : Fin 4, ∑ d : Fin 64, u h (ix2 i d) * w (ix2 ⟨64 * h.val + d.val, by omega⟩ n) := by
  pointwise [project]
  refine (sum_four _).trans (Finset.sum_congr rfl fun h _ => Finset.sum_congr rfl fun d _ => ?_)
  refine congrArg (· * w (ix2 ⟨64 * h.val + d.val, by omega⟩ n)) ?_
  have hd := d.isLt
  match h with
  | 0 => exact (dif_pos (by show 64 * 0 + d.val < 64; omega)).trans (congrArg (fun e => u 0 (ix2 i e)) (Fin.ext (by show 64 * 0 + d.val = d.val; omega)))
  | 1 => exact (dif_neg (by show ¬ 64 * 1 + d.val < 64; omega)).trans ((dif_pos (by show 64 * 1 + d.val - 64 < 64; omega)).trans
      (congrArg (fun e => u 1 (ix2 i e)) (Fin.ext (by show 64 * 1 + d.val - 64 = d.val; omega))))
  | 2 => exact (dif_neg (by show ¬ 64 * 2 + d.val < 64; omega)).trans ((dif_neg (by show ¬ 64 * 2 + d.val - 64 < 64; omega)).trans
      ((dif_pos (by show 64 * 2 + d.val - 64 - 64 < 64; omega)).trans
        (congrArg (fun e => u 2 (ix2 i e)) (Fin.ext (by show 64 * 2 + d.val - 64 - 64 = d.val; omega)))))
  | 3 => exact (dif_neg (by show ¬ 64 * 3 + d.val < 64; omega)).trans ((dif_neg (by show ¬ 64 * 3 + d.val - 64 < 64; omega)).trans
      ((dif_neg (by show ¬ 64 * 3 + d.val - 64 - 64 < 64; omega)).trans
        (congrArg (fun e => u 3 (ix2 i e)) (Fin.ext (by show 64 * 3 + d.val - 64 - 64 - 64 = d.val; omega)))))

/-! ## The projected queries -/

/-- The projected queries of one batch entry. -/
theorem q_apply (f1 : Vec Ideal S512x256 .bf16) (x : Vec Ideal S1x128x512 .bf16) (i : Fin 128) (k : Fin 256) :
    Gen.k0_pay3 f1 x (ix2 i k) = ∑ e : Fin 512, x (ix3 0 i e) * f1 (ix2 e k) := by
  pointwise [Gen.k0_pay3, Gen.k0_pay1]

/-- The columns of one head of them. -/
def cut (o : ℕ) (ho : S128x256.Slices ![0, o] S128x64) (q : FVec Ideal S128x256 .f32) : FVec Ideal S128x64 .bf16 :=
  truncf .bf16 (extractStridedSlice S128x64 ![0, o] q ho) bitsLt_bf16_f32

/-- The four heads' queries. -/
def cuts (q : FVec Ideal S128x256 .f32) : Fin 4 → FVec Ideal S128x64 .bf16
  | 0 => cut 0 slices_S128x256_o0_0_S128x64 q
  | 1 => cut 64 slices_S128x256_o0_64_S128x64 q
  | 2 => cut 128 slices_S128x256_o0_128_S128x64 q
  | 3 => cut 192 slices_S128x256_o0_192_S128x64 q

/-- A head's queries are the columns from 64 times its number on. -/
theorem cuts_apply (q : FVec Ideal S128x256 .f32) (h : Fin 4) (i : Fin 128) (d : Fin 64) :
    cuts q h (ix2 i d) = q (ix2 i ⟨64 * h.val + d.val, by omega⟩) := by
  match h with
  | 0 => pointwise [cuts, cut]
  | 1 => pointwise [cuts, cut]
  | 2 => pointwise [cuts, cut]
  | 3 => pointwise [cuts, cut]

/-! ## The two halves -/

section Halves

variable (f0 : Vec Ideal S2x128x512 .bf16) (f1 : Vec Ideal S512x256 .bf16) (f2 f3 : Vec Ideal S2x4x128x64 .bf16) (f4 : Vec Ideal S256x512 .bf16)

/-- A half's head: the attention of its batch entry, one head. -/
def headOf (b : Fin 2) (h : Fin 4) : FVec Ideal S128x64 .f32 :=
  Gen.k0_pay5 (cuts (Gen.k0_pay3 f1 (xBlk f0 b)) h) (hBlk f2 b h) (hBlk f3 b h)

/-- A half: its four heads, projected. -/
def halfOf (b : Fin 2) : FVec Ideal S128x512 .bf16 :=
  project (Gen.k0_pay2 f4) (headOf f0 f1 f2 f3 b 0) (headOf f0 f1 f2 f3 b 1) (headOf f0 f1 f2 f3 b 2) (headOf f0 f1 f2 f3 b 3)

/-- The first half stored is that. -/
theorem part0_eq : part0 f0 f1 f2 f3 f4 = halfOf f0 f1 f2 f3 f4 0 := by
  show shapeCast S128x512 (halfOf f0 f1 f2 f3 f4 0) shapeCasts_S128x512_S128x512 = _
  exact shapeCast_id _ _

/-- The second half stored is that of the other batch entry. -/
theorem part1_eq : part1 f0 f1 f2 f3 f4 = halfOf f0 f1 f2 f3 f4 1 := by
  show shapeCast S128x512 (halfOf f0 f1 f2 f3 f4 1) shapeCasts_S128x512_S128x512 = _
  exact shapeCast_id _ _

/-- Row `128 b + i` of a device's partial product. -/
def row (b : Fin 2) (i : Fin 128) : Fin 256 := ⟨128 * b.val + i.val, by omega⟩

/-- It is row `i` of the half of batch entry `b`. -/
theorem partial_row (b : Fin 2) (i : Fin 128) (n : Fin 512) :
    partialOf f0 f1 f2 f3 f4 (ix2 (row b i) n) = halfOf f0 f1 f2 f3 f4 b (ix2 i n) := by
  unfold partialOf stack
  rw [part0_eq, part1_eq]
  match b with
  | 0 =>
    exact (dif_pos (by show 128 * 0 + i.val < 128; omega)).trans
      (congrArg (fun e => halfOf f0 f1 f2 f3 f4 0 (ix2 e n)) (Fin.ext (by show 128 * 0 + i.val = i.val; omega)))
  | 1 =>
    exact (dif_neg (by show ¬ 128 * 1 + i.val < 128; omega)).trans
      (congrArg (fun e => halfOf f0 f1 f2 f3 f4 1 (ix2 e n)) (Fin.ext (by show 128 * 1 + i.val - 128 = i.val; omega)))

variable (x : Fin 2 → Fin 128 → Fin 512 → EReal) (wq : Fin 512 → Fin 4096 → EReal)
  (K V : Fin 2 → Fin 128 → Fin 64 → Fin 64 → EReal) (wo : Fin 4096 → Fin 512 → EReal) (c : Fin 16)

/-- On the device that holds column block `c` of the query weights, heads `4 c` to `4 c + 3` of the keys and the values, and
    row block `c` of the projection, an entry of the partial product is the device's share of the result. -/
theorem partial_share
    (h0 : ∀ b i e, f0 (ix3 b i e) = x b i e) (h1 : ∀ e (h : Fin 4) (d : Fin 64), f1 (ix2 e ⟨64 * h.val + d.val, by omega⟩) = wq e (col (hd c h) d))
    (h2 : ∀ b h j d, f2 (ix4 b h j d) = K b j (hd c h) d) (h3 : ∀ b h j d, f3 (ix4 b h j d) = V b j (hd c h) d)
    (h4 : ∀ (h : Fin 4) (d : Fin 64) n, f4 (ix2 ⟨64 * h.val + d.val, by omega⟩ n) = wo (col (hd c h) d) n)
    (b : Fin 2) (i : Fin 128) (n : Fin 512) :
    partialOf f0 f1 f2 f3 f4 (ix2 (row b i) n) = share x wq K V wo c b i n := by
  rw [partial_row]
  refine (project_apply _ (headOf f0 f1 f2 f3 b) i n).trans (Finset.sum_congr rfl fun h _ => Finset.sum_congr rfl fun d _ => ?_)
  have e4 : Gen.k0_pay2 f4 (ix2 ⟨64 * h.val + d.val, by omega⟩ n) = wo (col (hd c h) d) n :=
    (congrFun (shapeCast_id f4 _) _).trans (h4 h d n)
  have eq : ∀ e : Fin 64, cuts (Gen.k0_pay3 f1 (xBlk f0 b)) h (ix2 i e) = query x wq b i (col (hd c h) e) := fun e => by
    rw [cuts_apply, q_apply]
    refine Finset.sum_congr rfl fun g _ => ?_
    rw [h1 g h e]
    exact congrArg (· * wq g (col (hd c h) e)) (h0 b i g)
  have eh : headOf f0 f1 f2 f3 b h (ix2 i d) = context x wq K V b i (hd c h) d := by
    refine (head_apply _ _ _ i d).trans ?_
    unfold context
    have ek : (fun j e => hBlk f2 b h (ix4 0 0 j e)) = fun j e => K b j (hd c h) e := funext fun j => funext fun e => h2 b h j e
    have ev : (fun j e => hBlk f3 b h (ix4 0 0 j e)) = fun j e => V b j (hd c h) e := funext fun j => funext fun e => h3 b h j e
    rw [ek, ev, funext eq]
  rw [e4, eh]

end Halves

/-! ## What is reduced and gathered -/

section Sums

variable (P : Dev nD → Vec Ideal S256x512 .bf16)

/-- A slot holds the rows that its device computed for the one that owns the buffer. -/
theorem slot_apply (c p : Dev nD) (r : Fin 16) (n : Fin 512) :
    slotBlk (landed P c) p (ix3 0 r n) = P p (ix2 ⟨16 * c.val + r.val, by have h : c.val < 16 := c.isLt; omega⟩ n) := by
  refine congrArg (P p) ?_
  funext a
  match a with
  | 0 => rfl
  | 1 => rfl

/-- A device's own rows. -/
theorem own_apply (c : Dev nD) (r : Fin 16) (n : Fin 512) :
    rowBlk (P c) c (ix2 r n) = P c (ix2 ⟨16 * c.val + r.val, by have h : c.val < 16 := c.isLt; omega⟩ n) := by
  refine congrArg (P c) ?_
  funext a
  match a with
  | 0 => rfl
  | 1 => rfl

/-- The devices taken round the ring from any one of them are all the devices. -/
theorem ring_sum (f : Dev nD → EReal) (c : Dev nD) : ∑ k : Fin 16, f (pk c k.val) = ∑ p : Dev nD, f p := by
  have inj : Function.Injective fun k : Fin 16 => (pk c k.val : Fin 16) := fun a b h => by
    have hv : (c.val + a.val) % 16 = (c.val + b.val) % 16 := congrArg Fin.val h
    have hc : c.val < 16 := c.isLt
    exact Fin.ext (by omega)
  exact Fintype.sum_bijective _ (Finite.injective_iff_bijective.mp inj) _ _ fun _ => rfl

/-- What a device reduces is the sum over the devices. -/
theorem reduced_apply (c : Dev nD) (r : Fin 16) (n : Fin 512) :
    reduced P c (ix2 r n) = ∑ p : Dev nD, P p (ix2 ⟨16 * c.val + r.val, by have h : c.val < 16 := c.isLt; omega⟩ n) := by
  rw [← ring_sum _ c]
  have e0 : pk c 0 = c := Fin.ext (Nat.mod_eq_of_lt (by have h : c.val < 16 := c.isLt; simpa using h))
  unfold reduced acc12 acc10 acc8 acc6 acc3 acc1 slotK
  pointwise [Gen.k0_pay21, Gen.k0_pay22, Gen.k0_pay23, Gen.k0_pay24, Gen.k0_pay25, Gen.k0_pay26, Gen.k0_pay27, Gen.k0_pay28, slot_apply, own_apply]
  simp only [Fin.sum_univ_castSucc, Fin.sum_univ_zero, zero_add]
  show _ = P (pk c 0) _ + P (pk c 1) _ + P (pk c 2) _ + P (pk c 3) _ + P (pk c 4) _ + P (pk c 5) _ + P (pk c 6) _ + P (pk c 7) _
    + P (pk c 8) _ + P (pk c 9) _ + P (pk c 10) _ + P (pk c 11) _ + P (pk c 12) _ + P (pk c 13) _ + P (pk c 14) _ + P (pk c 15) _
  rw [e0]

/-- An entry of the result is the sum over the devices of their partial products' entries. -/
theorem result_apply (b : Fin 2) (i : Fin 128) (n : Fin 512) :
    Gen.k0_pay30 (gathered P) (ix3 b i n) = ∑ p : Dev nD, P p (ix2 (row b i) n) := by
  have e : Gen.k0_pay30 (gathered P) (ix3 b i n) = gathered P (ix2 (row b i) n) := by
    pointwise [Gen.k0_pay30]
    exact congrArg (fun t => gathered P (ix2 t n)) (Fin.ext (by show b.val * 128 + i.val = 128 * b.val + i.val; omega))
  rw [e]
  have hr : (row b i).val < 256 := (row b i).isLt
  have er : (row b i).val = 16 * ((row b i).val / 16) + (row b i).val % 16 := by omega
  unfold gathered
  refine (congrFun (shapeCast_id _ _) _).trans ((reduced_apply P _ _ n).trans ?_)
  refine Finset.sum_congr rfl fun p _ => congrArg (fun t => P p (ix2 t n)) (Fin.ext ?_)
  show 16 * ((row b i).val / 16) + (row b i).val % 16 = (row b i).val
  omega

end Sums

end Cert.Talk

end
-- ==== Proof.Prefix.lean ====
/- What the operations ahead of the kernel call hand it: the keys and the values of the device's four heads. -/
module

public import proofs.«01_k».proof.Proof.Attn
public import proofs.«01_k».proof.Proof.Data
public import Idealize.ShloMosaic.Lib.Tactic.CleanTypes

@[expose] public section

set_option maxRecDepth 16384

noncomputable section

namespace Cert.Talk

open Idealize.ShloMosaic Idealize.ShloMosaic.TcCoe Idealize.ShloMosaic.StableHlo Idealize.SL.Sem Cert.KernelIdeal Cert.KernelIdeal.Facts₀

variable (m : (ℓ : Loc nD τ sig) → Buf (Elt Ideal) ℓ) (c : Dev nD)

/-- The first of device `c`'s heads, as the program computes it: its place on the mesh times four, wrapped if negative. -/
def headWord : IVec S_ 32 :=
  let o : IVec S_ 32 := muli (Host.remui (Host.divui (constantI S_ 32 (Dev.word c)) (constantI S_ 32 1#32)) (constantI S_ 32 16#32)) (constantI S_ 32 4#32)
  select (cmpi .slt o (constantI S_ 32 0#32)) (addi o (constantI S_ 32 64#32)) o

/-- That place, as a number: four times the device. -/
theorem headWord_val : ∀ c : Dev nD, BitVec.toInt (headWord c (Shape.Idx.first h_S_)) = 4 * (c.val : Int) := by decide +kernel

/-- Where device `c`'s heads begin: at the start of each axis but that of the heads, there at `4 c`. -/
def headStarts (k : Fin 4) : Int := (![0, 0, 4 * (c.val : Int), 0] : Fin 4 → Int) k

/-- The device's heads of an array of all of them, heads ahead of places. -/
def ownHeads (x : Vec Ideal S2x128x64x64 .bf16) : Vec Ideal S2x4x128x64 .bf16 :=
  transpose S2x4x128x64 [0, 2, 1, 3] (Host.dynamicSlice S2x128x4x64 x (headStarts c) sliceFits_S2x128x64x64_S2x128x4x64)
    transposes_S2x128x4x64_S2x4x128x64_0_2_1_3

/-- Its head `h` is head `4 c + h`. -/
theorem ownHeads_apply (x : Vec Ideal S2x128x64x64 .bf16) (b : Fin 2) (h : Fin 4) (j : Fin 128) (d : Fin 64) :
    ownHeads c x (ix4 b h j d) = x (ix4 b j (hd c h) d) := by
  have hc : c.val < 16 := c.isLt
  pointwise [ownHeads]
  refine congrArg x ?_
  funext a
  match a with
  | 0 => exact Fin.ext (by show (min (max (0 : Int) 0) ((2 - 2 : Nat) : Int)).toNat + b.val = b.val; omega)
  | 1 => exact Fin.ext (by show (min (max (0 : Int) 0) ((128 - 128 : Nat) : Int)).toNat + j.val = j.val; omega)
  | 2 => exact Fin.ext (by show (min (max (4 * (c.val : Int)) 0) ((64 - 4 : Nat) : Int)).toNat + h.val = 4 * c.val + h.val; omega)
  | 3 => exact Fin.ext (by show (min (max (0 : Int) 0) ((64 - 64 : Nat) : Int)).toNat + d.val = d.val; omega)

/-- The staged keys are the device's heads of the keys. -/
theorem inK_eq : inK m c = ownHeads c (m ((c.tc : Thread nD τ).loc main_arg2)) := by
  show StableHlo.after (Gen.hostOps0 c) (Gen.V0 m c) _ = _
  simp only [Gen.hostOps0]
  after_results_simp
  refine congrArg (fun s => transpose S2x4x128x64 [0, 2, 1, 3]
    (Host.dynamicSlice S2x128x4x64 (m ((c.tc : Thread nD τ).loc main_arg2) : Vec Ideal S2x128x64x64 .bf16) s sliceFits_S2x128x64x64_S2x128x4x64)
    transposes_S2x128x4x64_S2x4x128x64_0_2_1_3) (funext fun k => ?_)
  match k with
  | 0 =>
    dsimp only [Matrix.cons_val_zero]
    after_results_simp
    rfl
  | 1 =>
    dsimp only [Matrix.cons_val]
    after_results_simp
    rfl
  | 2 =>
    dsimp only [Matrix.cons_val]
    after_results_simp
    exact headWord_val c
  | 3 =>
    dsimp only [Matrix.cons_val]
    after_results_simp
    rfl

/-- The staged values are the device's heads of the values. -/
theorem inV_eq : inV m c = ownHeads c (m ((c.tc : Thread nD τ).loc main_arg3)) := by
  show StableHlo.after (Gen.hostOps0 c) (Gen.V0 m c) _ = _
  simp only [Gen.hostOps0]
  after_results_simp
  refine congrArg (fun s => transpose S2x4x128x64 [0, 2, 1, 3]
    (Host.dynamicSlice S2x128x4x64 (m ((c.tc : Thread nD τ).loc main_arg3) : Vec Ideal S2x128x64x64 .bf16) s sliceFits_S2x128x64x64_S2x128x4x64)
    transposes_S2x128x4x64_S2x4x128x64_0_2_1_3) (funext fun k => ?_)
  match k with
  | 0 =>
    dsimp only [Matrix.cons_val_zero]
    after_results_simp
    rfl
  | 1 =>
    dsimp only [Matrix.cons_val]
    after_results_simp
    rfl
  | 2 =>
    dsimp only [Matrix.cons_val]
    after_results_simp
    exact headWord_val c
  | 3 =>
    dsimp only [Matrix.cons_val]
    after_results_simp
    rfl

end Cert.Talk

end
-- ==== Proof.RefValue.lean ====
/- The reference's result over the extended reals, entry by entry. -/
module

public import proofs.«01_k».proof.Proof.Attn
public import proofs.«01_k».proof.Proof.Gen.ReferenceIdeal
public import proofs.«01_k».proof.Proof.Gen.ReferenceIdeal.Run
public import Idealize.ShloMosaic.Lib.Tactic.CleanTypes

@[expose] public section

set_option maxRecDepth 16384

noncomputable section

namespace Cert.Talk

open Idealize.ShloMosaic Idealize.ShloMosaic.TcCoe Idealize.SL.Sem Cert.ReferenceIdeal Cert.ReferenceIdeal.Facts₀

variable (m : (ℓ : Loc nD τ sig) → Buf (Elt Ideal) ℓ) (c : Dev nD)

/-! ## The mask -/

/-- Every key is within 128 places of every query. -/
theorem near : ∀ i j : Fin 128, IntOp.cmpi CmpIPredicate.sle (IntOp.absi (IntOp.subi (BitVec.ofNat 32 i.val) (BitVec.ofNat 32 j.val))) 128#32 = 1#1 := by
  decide +kernel
/-- So every query has a key to keep. -/
theorem allKept : Finset.fold IntOp.ori (0#1) (fun _ : Fin 128 => 1#1) Finset.univ = 1#1 := by decide +kernel
/-- A choice whose bit is set takes its first. -/
theorem pick (a b : EReal) : Scalar.select 1#1 a b = a := rfl

/-! ## The arguments by coordinates -/

def xR (b : Fin 2) (i : Fin 128) (e : Fin 512) : EReal := m (c.tc.loc main_arg0) (ix3 b i e)
def wqR (e : Fin 512) (k : Fin 4096) : EReal := m (c.tc.loc main_arg1) (ix2 e k)
def KR (b : Fin 2) (j : Fin 128) (H d : Fin 64) : EReal := m (c.tc.loc main_arg2) (ix4 b j H d)
def VR (b : Fin 2) (j : Fin 128) (H d : Fin 64) : EReal := m (c.tc.loc main_arg3) (ix4 b j H d)
def woR (k : Fin 4096) (n : Fin 512) : EReal := m (c.tc.loc main_arg4) (ix2 k n)

/-- The columns of head `k / 64`, counted the other way round. -/
theorem col_swap (k : Fin 4096) (e : Fin 64) (h : k.val / 64 * 64 + e.val < 4096) (h' : k.val / 64 < 64) :
    (⟨k.val / 64 * 64 + e.val, h⟩ : Fin 4096) = col ⟨k.val / 64, h'⟩ e := Fin.ext (by show k.val / 64 * 64 + e.val = 64 * (k.val / 64) + e.val; omega)

/-- An entry of the reference's result. -/
theorem ref_apply (b : Fin 2) (i : Fin 128) (n : Fin 512) :
    (Cert.ReferenceIdeal.Value.res_main_v43 m c : Vec Ideal S2x128x512 .f32) (ix3 b i n)
      = answer (xR m c) (wqR m c) (KR m c) (VR m c) (woR m c) b i n := by
  have hk : ∀ k : Fin 4096, k.val / 64 < 64 := fun k => by omega
  have hm : ∀ k : Fin 4096, k.val % 64 < 64 := fun k => by omega
  have key : (Cert.ReferenceIdeal.Value.res_main_v43 m c : Vec Ideal S2x128x512 .f32) (ix3 b i n)
      = ∑ k : Fin 4096, context (xR m c) (wqR m c) (KR m c) (VR m c) b i ⟨k.val / 64, hk k⟩ ⟨k.val % 64, hm k⟩ * woR m c k n := by
    unfold Cert.ReferenceIdeal.Value.res_main_v43
    clean_types
    pointwise
    simp only [near, allKept, pick]
    refine Finset.sum_congr rfl fun k _ => congrArg (· * woR m c k n) ?_
    unfold context attend average
    refine Finset.sum_congr rfl fun j _ => (mul_comm (_ : EReal) _).trans ?_
    simp only [col_swap k _ _ (hk k)]
    rfl
  rw [key]
  refine (sum_cols _).trans (Finset.sum_congr rfl fun H _ => Finset.sum_congr rfl fun d _ => ?_)
  have eH : (⟨(col H d).val / 64, hk _⟩ : Fin 64) = H := Fin.ext (by show (64 * H.val + d.val) / 64 = H.val; omega)
  have ed : (⟨(col H d).val % 64, hm _⟩ : Fin 64) = d := Fin.ext (by show (64 * H.val + d.val) % 64 = d.val; omega)
  rw [eH, ed]

end Cert.Talk

end
-- ==== Proof.Algebraic.lean ====
/- The kernel's result over the extended reals is the reference's. -/
module

public import proofs.«01_k».proof.Defs
public import proofs.«01_k».proof.Proof.Block
public import proofs.«01_k».proof.Proof.Prefix
public import proofs.«01_k».proof.Proof.RefValue
public import proofs.«01_k».proof.Proof.Final
public import Idealize.ShloMosaic.Lib.Layout

@[expose] public section

set_option maxRecDepth 16384

noncomputable section

namespace Cert.Talk

open Idealize.ShloMosaic Idealize.ShloMosaic.TcCoe Idealize.SL.Sem

/-! ## Blocks of the whole arrays -/

/-- Column `64 h + d` of the device's block of columns is column `d` of head `4 c + h`. -/
theorem block_cols (c : Fin 16) (v : (⟨2, ![512, 4096]⟩ : Shape).Idx → EReal) (e : Fin 512) (h : Fin 4) (d : Fin 64) :
    Layout.block ⟨2, ![512, 256]⟩ ⟨2, ![512, 4096]⟩ 1 16 c v (by decide) (ix2 e ⟨64 * h.val + d.val, by omega⟩) = v (ix2 e (col (hd c h) d)) := by
  refine congrArg v ?_
  funext a
  match a with
  | 0 => rfl
  | 1 => exact Fin.ext (by show c.val * 256 + (64 * h.val + d.val) = 64 * (4 * c.val + h.val) + d.val; omega)

/-- Row `64 h + d` of the device's block of rows is row `d` of head `4 c + h`. -/
theorem block_rows (c : Fin 16) (v : (⟨2, ![4096, 512]⟩ : Shape).Idx → EReal) (h : Fin 4) (d : Fin 64) (n : Fin 512) :
    Layout.block ⟨2, ![256, 512]⟩ ⟨2, ![4096, 512]⟩ 0 16 c v (by decide) (ix2 ⟨64 * h.val + d.val, by omega⟩ n) = v (ix2 (col (hd c h) d) n) := by
  refine congrArg v ?_
  funext a
  match a with
  | 0 => exact Fin.ext (by show c.val * 256 + (64 * h.val + d.val) = 64 * (4 * c.val + h.val) + d.val; omega)
  | 1 => rfl

/-! ## The equation -/

section Equation

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What the claim assumes of the two memories: each device holds the whole of the activations, keys and values, its block of
    the query weights' columns and its block of the projection's rows. -/
def Agree : Prop := ∀ c : Dev Cert.KernelIdeal.nD,
  m (c.tc.loc Cert.KernelIdeal.main_arg0) = m' ((0 : Dev Cert.ReferenceIdeal.nD).tc.loc Cert.ReferenceIdeal.main_arg0)
  ∧ m (c.tc.loc Cert.KernelIdeal.main_arg1) = Layout.block ⟨2, ![512, 256]⟩ ⟨2, ![512, 4096]⟩ 1 16 c (m' ((0 : Dev Cert.ReferenceIdeal.nD).tc.loc Cert.ReferenceIdeal.main_arg1))
  ∧ m (c.tc.loc Cert.KernelIdeal.main_arg2) = m' ((0 : Dev Cert.ReferenceIdeal.nD).tc.loc Cert.ReferenceIdeal.main_arg2)
  ∧ m (c.tc.loc Cert.KernelIdeal.main_arg3) = m' ((0 : Dev Cert.ReferenceIdeal.nD).tc.loc Cert.ReferenceIdeal.main_arg3)
  ∧ m (c.tc.loc Cert.KernelIdeal.main_arg4) = Layout.block ⟨2, ![256, 512]⟩ ⟨2, ![4096, 512]⟩ 0 16 c (m' ((0 : Dev Cert.ReferenceIdeal.nD).tc.loc Cert.ReferenceIdeal.main_arg4))

variable {m m'}

/-- A device's partial product is its share of the reference's answer. -/
theorem partial_eq (h : Agree m m') (c : Dev Cert.KernelIdeal.nD) (b : Fin 2) (i : Fin 128) (n : Fin 512) :
    PP m c (ix2 (row b i) n) = share (xR m' 0) (wqR m' 0) (KR m' 0) (VR m' 0) (woR m' 0) c b i n := by
  obtain ⟨h0, h1, h2, h3, h4⟩ := h c
  have v0 : inX m c = m' ((0 : Dev Cert.ReferenceIdeal.nD).tc.loc Cert.ReferenceIdeal.main_arg0) := (Cert.KernelIdeal.Gen.V1_of m c _ (by decide)).trans h0
  have v1 : inWq m c = _ := (Cert.KernelIdeal.Gen.V1_of m c _ (by decide)).trans h1
  have v4 : inWo m c = _ := (Cert.KernelIdeal.Gen.V1_of m c _ (by decide)).trans h4
  unfold PP
  refine partial_share _ _ _ _ _ _ _ _ _ _ c (fun b i e => ?_) (fun e h d => ?_) (fun b h j d => ?_) (fun b h j d => ?_) (fun h d n => ?_) b i n
  · rw [v0]; rfl
  · rw [v1]; exact block_cols c _ e h d
  · rw [inK_eq, ownHeads_apply, h2]; rfl
  · rw [inV_eq, ownHeads_apply, h3]; rfl
  · rw [v4]; exact block_rows c _ h d n

/-- The result every device stores is the reference's. -/
theorem value_eq (h : Agree m m') : outV m = Cert.ReferenceIdeal.Value.res_main_v43 m' 0 := by
  funext j
  obtain ⟨b, i, n, rfl⟩ : ∃ (b : Fin 2) (i : Fin 128) (n : Fin 512), j = ix3 b i n := ⟨j 0, j 1, j 2, eq_ix3 j⟩
  refine (result_apply (PP m) b i n).trans (Eq.trans ?_ (ref_apply m' 0 b i n).symm)
  rw [answer_eq]
  exact Finset.sum_congr rfl fun c _ => partial_eq h c b i n

end Equation

/-! ## The claim -/

/-- From memories that agree, every device's result and the reference's are one array, and no argument changes. -/
theorem same_value : Cert.algebraic_KernelIdeal_ReferenceIdeal := by
  intro m ρ m' ρ' _ h
  refine ⟨Cert.ReferenceIdeal.Value.res_main_v43 m' 0, ?_, ?_⟩
  · exact (θ_run Cert.KernelIdeal.defs _ _).mono (fun _ e c => ⟨(e.1 c).2.trans (value_eq h), (e.1 c).1⟩) (run_main (F := Ideal) m ρ)
  · exact (θ_run Cert.ReferenceIdeal.defs _ _).mono (fun _ e => e 0) (Cert.ReferenceIdeal.Value.run (F := Ideal) m' ρ')

end Cert.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, in the order stated. -/
theorem claim : Cert.Claim :=
  ⟨Cert.Kernel.Gen.facts, Cert.KernelIdeal.Gen.facts, Cert.ReferenceIdeal.Gen.facts,
    Cert.Talk.frame_kernel, Cert.Talk.frame_ideal, Cert.Talk.frame_reference, trivial, Cert.Talk.same_value⟩

end Cert.Proof

end
